-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_m" .f32 0x38AAAAAB#32 ((12288⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1x768 : Shape := ⟨2, ![1, 768]⟩
abbrev S4x384x768 : Shape := ⟨3, ![4, 384, 768]⟩
abbrev S7x1x768 : Shape := ⟨3, ![7, 1, 768]⟩
abbrev S4 : Shape := ⟨1, ![4]⟩
abbrev S7 : Shape := ⟨1, ![7]⟩
abbrev S_ : Shape := ⟨0, ![]⟩
abbrev S1 : Shape := ⟨1, ![1]⟩
abbrev S1x384x768 : Shape := ⟨3, ![1, 384, 768]⟩
abbrev S384x768 : Shape := ⟨2, ![384, 768]⟩
abbrev S768 : Shape := ⟨1, ![768]⟩
abbrev S1x1x768 : Shape := ⟨3, ![1, 1, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1x768, .f32⟩
  | .local _ .vmem, ⟨1, _⟩ => ⟨S4x384x768, .f32⟩
  | .local _ .vmem, ⟨2, _⟩ => ⟨S1x768, .f32⟩
  | .local _ .vmem, ⟨3, _⟩ => ⟨S7x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v24 : BitVec 32 := Scalar.addi v2 c1_i32_18
  let c8_i32_19 : BitVec 32 := 8#32
  let c0_i32_20 : BitVec 32 := 0#32
  let v25 : BitVec 1 := Scalar.cmpi .eq c8_i32_19 c0_i32_20
  let c1_i32_21 : BitVec 32 := 1#32
  let v26 : BitVec 32 := Scalar.select v25 c1_i32_21 c8_i32_19
  let v27 : BitVec 32 := Scalar.remsi v24 v26
  let c0_i32_23 : BitVec 32 := 0#32
  let v29 : BitVec 1 := Scalar.cmpi .slt v27 c0_i32_23
  let c0_i32_24 : BitVec 32 := 0#32
  let v30 : BitVec 1 := Scalar.cmpi .slt v26 c0_i32_24
  let v31 : BitVec 1 := Scalar.xori v29 v30
  let c0_i32_22 : BitVec 32 := 0#32
  let v28 : BitVec 1 := Scalar.cmpi .ne v27 c0_i32_22
  let v32 : BitVec 1 := Scalar.andi v31 v28
  let v33 : BitVec 32 := Scalar.addi v27 v26
  let v34 : BitVec 32 := Scalar.select v32 v33 v27
  let c1_i32_26 : BitVec 32 := 1#32
  let v35 : BitVec 32 := Scalar.muli v34 c1_i32_26
  let v36 : BitVec 32 := Scalar.addi c0_i32_27 v35
  v36.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_28 : BitVec 32 := 2#32
  let v37 : BitVec 32 := Scalar.addi v2 c2_i32_28
  let c8_i32_29 : BitVec 32 := 8#32
  let c0_i32_30 : BitVec 32 := 0#32
  let v38 : BitVec 1 := Scalar.cmpi .eq c8_i32_29 c0_i32_30
  let c1_i32_31 : BitVec 32 := 1#32
  let v39 : BitVec 32 := Scalar.select v38 c1_i32_31 c8_i32_29
  let v40 : BitVec 32 := Scalar.remsi v37 v39
  let c0_i32_33 : BitVec 32 := 0#32
  let v42 : BitVec 1 := Scalar.cmpi .slt v40 c0_i32_33
  let c0_i32_34 : BitVec 32 := 0#32
  let v43 : BitVec 1 := Scalar.cmpi .slt v39 c0_i32_34
  let v44 : BitVec 1 := Scalar.xori v42 v43
  let c0_i32_32 : BitVec 32 := 0#32
  let v41 : BitVec 1 := Scalar.cmpi .ne v40 c0_i32_32
  let v45 : BitVec 1 := Scalar.andi v44 v41
  let v46 : BitVec 32 := Scalar.addi v40 v39
  let v47 : BitVec 32 := Scalar.select v45 v46 v40
  let c1_i32_36 : BitVec 32 := 1#32
  let v48 : BitVec 32 := Scalar.muli v47 c1_i32_36
  let v49 : BitVec 32 := Scalar.addi c0_i32_37 v48
  v49.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_38 : BitVec 32 := 3#32
  let v50 : BitVec 32 := Scalar.addi v2 c3_i32_38
  let c8_i32_39 : BitVec 32 := 8#32
  let c0_i32_40 : BitVec 32 := 0#32
  let v51 : BitVec 1 := Scalar.cmpi .eq c8_i32_39 c0_i32_40
  let c1_i32_41 : BitVec 32 := 1#32
  let v52 : BitVec 32 := Scalar.select v51 c1_i32_41 c8_i32_39
  let v53 : BitVec 32 := Scalar.remsi v50 v52
  let c0_i32_43 : BitVec 32 := 0#32
  let v55 : BitVec 1 := Scalar.cmpi .slt v53 c0_i32_43
  let c0_i32_44 : BitVec 32 := 0#32
  let v56 : BitVec 1 := Scalar.cmpi .slt v52 c0_i32_44
  let v57 : BitVec 1 := Scalar.xori v55 v56
  let c0_i32_42 : BitVec 32 := 0#32
  let v54 : BitVec 1 := Scalar.cmpi .ne v53 c0_i32_42
  let v58 : BitVec 1 := Scalar.andi v57 v54
  let v59 : BitVec 32 := Scalar.addi v53 v52
  let v60 : BitVec 32 := Scalar.select v58 v59 v53
  let c1_i32_46 : BitVec 32 := 1#32
  let v61 : BitVec 32 := Scalar.muli v60 c1_i32_46
  let v62 : BitVec 32 := Scalar.addi c0_i32_47 v61
  v62.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v63 : BitVec 32 := Scalar.addi v2 c4_i32
  let c8_i32_48 : BitVec 32 := 8#32
  let c0_i32_49 : BitVec 32 := 0#32
  let v64 : BitVec 1 := Scalar.cmpi .eq c8_i32_48 c0_i32_49
  let c1_i32_50 : BitVec 32 := 1#32
  let v65 : BitVec 32 := Scalar.select v64 c1_i32_50 c8_i32_48
  let v66 : BitVec 32 := Scalar.remsi v63 v65
  let c0_i32_52 : BitVec 32 := 0#32
  let v68 : BitVec 1 := Scalar.cmpi .slt v66 c0_i32_52
  let c0_i32_53 : BitVec 32 := 0#32
  let v69 : BitVec 1 := Scalar.cmpi .slt v65 c0_i32_53
  let v70 : BitVec 1 := Scalar.xori v68 v69
  let c0_i32_51 : BitVec 32 := 0#32
  let v67 : BitVec 1 := Scalar.cmpi .ne v66 c0_i32_51
  let v71 : BitVec 1 := Scalar.andi v70 v67
  let v72 : BitVec 32 := Scalar.addi v66 v65
  let v73 : BitVec 32 := Scalar.select v71 v72 v66
  let c1_i32_55 : BitVec 32 := 1#32
  let v74 : BitVec 32 := Scalar.muli v73 c1_i32_55
  let v75 : BitVec 32 := Scalar.addi c0_i32_56 v74
  v75.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v76 : BitVec 32 := Scalar.addi v2 c5_i32
  let c8_i32_57 : BitVec 32 := 8#32
  let c0_i32_58 : BitVec 32 := 0#32
  let v77 : BitVec 1 := Scalar.cmpi .eq c8_i32_57 c0_i32_58
  let c1_i32_59 : BitVec 32 := 1#32
  let v78 : BitVec 32 := Scalar.select v77 c1_i32_59 c8_i32_57
  let v79 : BitVec 32 := Scalar.remsi v76 v78
  let c0_i32_61 : BitVec 32 := 0#32
  let v81 : BitVec 1 := Scalar.cmpi .slt v79 c0_i32_61
  let c0_i32_62 : BitVec 32 := 0#32
  let v82 : BitVec 1 := Scalar.cmpi .slt v78 c0_i32_62
  let v83 : BitVec 1 := Scalar.xori v81 v82
  let c0_i32_60 : BitVec 32 := 0#32
  let v80 : BitVec 1 := Scalar.cmpi .ne v79 c0_i32_60
  let v84 : BitVec 1 := Scalar.andi v83 v80
  let v85 : BitVec 32 := Scalar.addi v79 v78
  let v86 : BitVec 32 := Scalar.select v84 v85 v79
  let c1_i32_64 : BitVec 32 := 1#32
  let v87 : BitVec 32 := Scalar.muli v86 c1_i32_64
  let v88 : BitVec 32 := Scalar.addi c0_i32_65 v87
  v88.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v89 : BitVec 32 := Scalar.addi v2 c6_i32
  let c8_i32_66 : BitVec 32 := 8#32
  let c0_i32_67 : BitVec 32 := 0#32
  let v90 : BitVec 1 := Scalar.cmpi .eq c8_i32_66 c0_i32_67
  let c1_i32_68 : BitVec 32 := 1#32
  let v91 : BitVec 32 := Scalar.select v90 c1_i32_68 c8_i32_66
  let v92 : BitVec 32 := Scalar.remsi v89 v91
  let c0_i32_70 : BitVec 32 := 0#32
  let v94 : BitVec 1 := Scalar.cmpi .slt v92 c0_i32_70
  let c0_i32_71 : BitVec 32 := 0#32
  let v95 : BitVec 1 := Scalar.cmpi .slt v91 c0_i32_71
  let v96 : BitVec 1 := Scalar.xori v94 v95
  let c0_i32_69 : BitVec 32 := 0#32
  let v93 : BitVec 1 := Scalar.cmpi .ne v92 c0_i32_69
  let v97 : BitVec 1 := Scalar.andi v96 v93
  let v98 : BitVec 32 := Scalar.addi v92 v91
  let v99 : BitVec 32 := Scalar.select v97 v98 v92
  let c1_i32_73 : BitVec 32 := 1#32
  let v100 : BitVec 32 := Scalar.muli v99 c1_i32_73
  let v101 : BitVec 32 := Scalar.addi c0_i32_74 v100
  v101.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v102 : BitVec 32 := Scalar.addi v2 c7_i32
  let c8_i32_75 : BitVec 32 := 8#32
  let c0_i32_76 : BitVec 32 := 0#32
  let v103 : BitVec 1 := Scalar.cmpi .eq c8_i32_75 c0_i32_76
  let c1_i32_77 : BitVec 32 := 1#32
  let v104 : BitVec 32 := Scalar.select v103 c1_i32_77 c8_i32_75
  let v105 : BitVec 32 := Scalar.remsi v102 v104
  let c0_i32_79 : BitVec 32 := 0#32
  let v107 : BitVec 1 := Scalar.cmpi .slt v105 c0_i32_79
  let c0_i32_80 : BitVec 32 := 0#32
  let v108 : BitVec 1 := Scalar.cmpi .slt v104 c0_i32_80
  let v109 : BitVec 1 := Scalar.xori v107 v108
  let c0_i32_78 : BitVec 32 := 0#32
  let v106 : BitVec 1 := Scalar.cmpi .ne v105 c0_i32_78
  let v110 : BitVec 1 := Scalar.andi v109 v106
  let v111 : BitVec 32 := Scalar.addi v105 v104
  let v112 : BitVec 32 := Scalar.select v110 v111 v105
  let c1_i32_82 : BitVec 32 := 1#32
  let v113 : BitVec 32 := Scalar.muli v112 c1_i32_82
  let v114 : BitVec 32 := Scalar.addi c0_i32_83 v113
  v114.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_134 : BitVec 32 := 1#32
  let v169 : BitVec 32 := Scalar.addi v2 c1_i32_134
  let c8_i32_135 : BitVec 32 := 8#32
  let c0_i32_136 : BitVec 32 := 0#32
  let v170 : BitVec 1 := Scalar.cmpi .eq c8_i32_135 c0_i32_136
  let c1_i32_137 : BitVec 32 := 1#32
  let v171 : BitVec 32 := Scalar.select v170 c1_i32_137 c8_i32_135
  let v172 : BitVec 32 := Scalar.remsi v169 v171
  let c0_i32_139 : BitVec 32 := 0#32
  let v174 : BitVec 1 := Scalar.cmpi .slt v172 c0_i32_139
  let c0_i32_140 : BitVec 32 := 0#32
  let v175 : BitVec 1 := Scalar.cmpi .slt v171 c0_i32_140
  let v176 : BitVec 1 := Scalar.xori v174 v175
  let c0_i32_138 : BitVec 32 := 0#32
  let v173 : BitVec 1 := Scalar.cmpi .ne v172 c0_i32_138
  let v177 : BitVec 1 := Scalar.andi v176 v173
  let v178 : BitVec 32 := Scalar.addi v172 v171
  let v179 : BitVec 32 := Scalar.select v177 v178 v172
  let c1_i32_144 : BitVec 32 := 1#32
  let v180 : BitVec 32 := Scalar.muli v179 c1_i32_144
  let v181 : BitVec 32 := Scalar.addi c0_i32_145 v180
  v181.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v188 : BitVec 32 := Scalar.addi v2 c2_i32_148
  let c8_i32_149 : BitVec 32 := 8#32
  let c0_i32_150 : BitVec 32 := 0#32
  let v189 : BitVec 1 := Scalar.cmpi .eq c8_i32_149 c0_i32_150
  let c1_i32_151 : BitVec 32 := 1#32
  let v190 : BitVec 32 := Scalar.select v189 c1_i32_151 c8_i32_149
  let v191 : BitVec 32 := Scalar.remsi v188 v190
  let c0_i32_153 : BitVec 32 := 0#32
  let v193 : BitVec 1 := Scalar.cmpi .slt v191 c0_i32_153
  let c0_i32_154 : BitVec 32 := 0#32
  let v194 : BitVec 1 := Scalar.cmpi .slt v190 c0_i32_154
  let v195 : BitVec 1 := Scalar.xori v193 v194
  let c0_i32_152 : BitVec 32 := 0#32
  let v192 : BitVec 1 := Scalar.cmpi .ne v191 c0_i32_152
  let v196 : BitVec 1 := Scalar.andi v195 v192
  let v197 : BitVec 32 := Scalar.addi v191 v190
  let v198 : BitVec 32 := Scalar.select v196 v197 v191
  let c1_i32_158 : BitVec 32 := 1#32
  let v199 : BitVec 32 := Scalar.muli v198 c1_i32_158
  let v200 : BitVec 32 := Scalar.addi c0_i32_159 v199
  v200.toNat
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_162 : BitVec 32 := 3#32
  let v207 : BitVec 32 := Scalar.addi v2 c3_i32_162
  let c8_i32_163 : BitVec 32 := 8#32
  let c0_i32_164 : BitVec 32 := 0#32
  let v208 : BitVec 1 := Scalar.cmpi .eq c8_i32_163 c0_i32_164
  let c1_i32_165 : BitVec 32 := 1#32
  let v209 : BitVec 32 := Scalar.select v208 c1_i32_165 c8_i32_163
  let v210 : BitVec 32 := Scalar.remsi v207 v209
  let c0_i32_167 : BitVec 32 := 0#32
  let v212 : BitVec 1 := Scalar.cmpi .slt v210 c0_i32_167
  let c0_i32_168 : BitVec 32 := 0#32
  let v213 : BitVec 1 := Scalar.cmpi .slt v209 c0_i32_168
  let v214 : BitVec 1 := Scalar.xori v212 v213
  let c0_i32_166 : BitVec 32 := 0#32
  let v211 : BitVec 1 := Scalar.cmpi .ne v210 c0_i32_166
  let v215 : BitVec 1 := Scalar.andi v214 v211
  let v216 : BitVec 32 := Scalar.addi v210 v209
  let v217 : BitVec 32 := Scalar.select v215 v216 v210
  let c1_i32_172 : BitVec 32 := 1#32
  let v218 : BitVec 32 := Scalar.muli v217 c1_i32_172
  let v219 : BitVec 32 := Scalar.addi c0_i32_173 v218
  v219.toNat
def k0_dev11 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_176 : BitVec 32 := 4#32
  let v226 : BitVec 32 := Scalar.addi v2 c4_i32_176
  let c8_i32_177 : BitVec 32 := 8#32
  let c0_i32_178 : BitVec 32 := 0#32
  let v227 : BitVec 1 := Scalar.cmpi .eq c8_i32_177 c0_i32_178
  let c1_i32_179 : BitVec 32 := 1#32
  let v228 : BitVec 32 := Scalar.select v227 c1_i32_179 c8_i32_177
  let v229 : BitVec 32 := Scalar.remsi v226 v228
  let c0_i32_181 : BitVec 32 := 0#32
  let v231 : BitVec 1 := Scalar.cmpi .slt v229 c0_i32_181
  let c0_i32_182 : BitVec 32 := 0#32
  let v232 : BitVec 1 := Scalar.cmpi .slt v228 c0_i32_182
  let v233 : BitVec 1 := Scalar.xori v231 v232
  let c0_i32_180 : BitVec 32 := 0#32
  let v230 : BitVec 1 := Scalar.cmpi .ne v229 c0_i32_180
  let v234 : BitVec 1 := Scalar.andi v233 v230
  let v235 : BitVec 32 := Scalar.addi v229 v228
  let v236 : BitVec 32 := Scalar.select v234 v235 v229
  let c1_i32_186 : BitVec 32 := 1#32
  let v237 : BitVec 32 := Scalar.muli v236 c1_i32_186
  let v238 : BitVec 32 := Scalar.addi c0_i32_187 v237
  v238.toNat
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_190 : BitVec 32 := 5#32
  let v245 : BitVec 32 := Scalar.addi v2 c5_i32_190
  let c8_i32_191 : BitVec 32 := 8#32
  let c0_i32_192 : BitVec 32 := 0#32
  let v246 : BitVec 1 := Scalar.cmpi .eq c8_i32_191 c0_i32_192
  let c1_i32_193 : BitVec 32 := 1#32
  let v247 : BitVec 32 := Scalar.select v246 c1_i32_193 c8_i32_191
  let v248 : BitVec 32 := Scalar.remsi v245 v247
  let c0_i32_195 : BitVec 32 := 0#32
  let v250 : BitVec 1 := Scalar.cmpi .slt v248 c0_i32_195
  let c0_i32_196 : BitVec 32 := 0#32
  let v251 : BitVec 1 := Scalar.cmpi .slt v247 c0_i32_196
  let v252 : BitVec 1 := Scalar.xori v250 v251
  let c0_i32_194 : BitVec 32 := 0#32
  let v249 : BitVec 1 := Scalar.cmpi .ne v248 c0_i32_194
  let v253 : BitVec 1 := Scalar.andi v252 v249
  let v254 : BitVec 32 := Scalar.addi v248 v247
  let v255 : BitVec 32 := Scalar.select v253 v254 v248
  let c1_i32_200 : BitVec 32 := 1#32
  let v256 : BitVec 32 := Scalar.muli v255 c1_i32_200
  let v257 : BitVec 32 := Scalar.addi c0_i32_201 v256
  v257.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_204 : BitVec 32 := 6#32
  let v264 : BitVec 32 := Scalar.addi v2 c6_i32_204
  let c8_i32_205 : BitVec 32 := 8#32
  let c0_i32_206 : BitVec 32 := 0#32
  let v265 : BitVec 1 := Scalar.cmpi .eq c8_i32_205 c0_i32_206
  let c1_i32_207 : BitVec 32 := 1#32
  let v266 : BitVec 32 := Scalar.select v265 c1_i32_207 c8_i32_205
  let v267 : BitVec 32 := Scalar.remsi v264 v266
  let c0_i32_209 : BitVec 32 := 0#32
  let v269 : BitVec 1 := Scalar.cmpi .slt v267 c0_i32_209
  let c0_i32_210 : BitVec 32 := 0#32
  let v270 : BitVec 1 := Scalar.cmpi .slt v266 c0_i32_210
  let v271 : BitVec 1 := Scalar.xori v269 v270
  let c0_i32_208 : BitVec 32 := 0#32
  let v268 : BitVec 1 := Scalar.cmpi .ne v267 c0_i32_208
  let v272 : BitVec 1 := Scalar.andi v271 v268
  let v273 : BitVec 32 := Scalar.addi v267 v266
  let v274 : BitVec 32 := Scalar.select v272 v273 v267
  let c1_i32_214 : BitVec 32 := 1#32
  let v275 : BitVec 32 := Scalar.muli v274 c1_i32_214
  let v276 : BitVec 32 := Scalar.addi c0_i32_215 v275
  v276.toNat
def k0_dev14 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_218 : BitVec 32 := 7#32
  let v283 : BitVec 32 := Scalar.addi v2 c7_i32_218
  let c8_i32_219 : BitVec 32 := 8#32
  let c0_i32_220 : BitVec 32 := 0#32
  let v284 : BitVec 1 := Scalar.cmpi .eq c8_i32_219 c0_i32_220
  let c1_i32_221 : BitVec 32 := 1#32
  let v285 : BitVec 32 := Scalar.select v284 c1_i32_221 c8_i32_219
  let v286 : BitVec 32 := Scalar.remsi v283 v285
  let c0_i32_223 : BitVec 32 := 0#32
  let v288 : BitVec 1 := Scalar.cmpi .slt v286 c0_i32_223
  let c0_i32_224 : BitVec 32 := 0#32
  let v289 : BitVec 1 := Scalar.cmpi .slt v285 c0_i32_224
  let v290 : BitVec 1 := Scalar.xori v288 v289
  let c0_i32_222 : BitVec 32 := 0#32
  let v287 : BitVec 1 := Scalar.cmpi .ne v286 c0_i32_222
  let v291 : BitVec 1 := Scalar.andi v290 v287
  let v292 : BitVec 32 := Scalar.addi v286 v285
  let v293 : BitVec 32 := Scalar.select v291 v292 v286
  let c1_i32_228 : BitVec 32 := 1#32
  let v294 : BitVec 32 := Scalar.muli v293 c1_i32_228
  let v295 : BitVec 32 := Scalar.addi c0_i32_229 v294
  v295.toNat
abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "inv_m" => some ((12288⁻¹ : ℝ) : EReal)
  | _ => none
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Program.lean ====
/-
The kernel body of one device, restated with one name per kind of step: a block of rows loaded, a neighbour
signalled, the partial sum sent, a receipt awaited. Each name takes the number of the block or of the
neighbour, so that what follows is proved once for all of them.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Mean

open Cert.KernelIdeal Cert.KernelIdeal.Gen
open Idealize.ShloMosaic Idealize.ShloMosaic.TcCoe
open Idealize.SL.Sem

/-! ## The buffers, block by block -/

/-- Rows `384 i … 384 i + 383` of a device's block lie inside it. -/
theorem rows_fit : ∀ i : Fin 4, ∀ a, (![384 * i.val, 0] : Fin 2 → Nat) a + S384x768.size a ≤ S1536x768.size a := by decide
/-- Slot `i` of the landing buffer of the loads lies inside it. -/
theorem buf_fit : ∀ i : Fin 4, ∀ a, (![i.val, 0, 0] : Fin 3 → Nat) a + S1x384x768.size a ≤ S4x384x768.size a := by decide
/-- Row `k` of the gather buffer lies inside it. -/
theorem slot_fit : ∀ k : Fin 7, ∀ a, (![k.val, 0, 0] : Fin 3 → Nat) a + S1x1x768.size a ≤ S7x1x768.size a := by decide
/-- A load semaphore's number lies inside its array. -/
theorem sem4_fit : ∀ i : Fin 4, ∀ a, (![i.val] : Fin 1 → Nat) a + S1.size a ≤ S4.size a := by decide
/-- A send or receive semaphore's number lies inside its array. -/
theorem sem7_fit : ∀ k : Fin 7, ∀ a, (![k.val] : Fin 1 → Nat) a + S1.size a ≤ S7.size a := by decide

/-- The argument, the result's staging buffer, the loads' buffer, the partial sum, the gather buffer. -/
abbrev xM : Memref sig .tc .hbm S1536x768 .f32 := Memref.whole main_arg0
abbrev oM : Memref sig .tc .vmem S1x768 .f32 := Memref.whole cc0_stg0_0
abbrev bM : Memref sig .tc .vmem S4x384x768 .f32 := Memref.whole cc0_scratch0
abbrev pM : Memref sig .tc .vmem S1x768 .f32 := Memref.whole cc0_scratch1
abbrev gM : Memref sig .tc .vmem S7x1x768 .f32 := Memref.whole cc0_scratch2

/-- The rectangle of rows `384 i …` of the argument, of slot `i` of the loads' buffer, of row `k` of the gather buffer. -/
abbrev rowsR (i : Fin 4) : Rect S1536x768 := Rect.unit (s := S1536x768) ![384 * i.val, 0] S384x768.size (rows_fit i)
abbrev bufR (i : Fin 4) : Rect S4x384x768 := Rect.unit (s := S4x384x768) ![i.val, 0, 0] S1x384x768.size (buf_fit i)
abbrev slotR (k : Fin 7) : Rect S7x1x768 := Rect.unit (s := S7x1x768) ![k.val, 0, 0] S1x1x768.size (slot_fit k)
abbrev pR : Rect S1x768 := Rect.unit (s := S1x768) ![0, 0] S1x768.size inb_S1x768_S1x768_0_0
abbrev gR : Rect S7x1x768 := Rect.unit (s := S7x1x768) ![0, 0, 0] S7x1x768.size inb_S7x1x768_S7x1x768_0_0_0

/-- Rows `384 i …` of the argument; slot `i` of the loads' buffer; row `k` of the gather buffer. -/
abbrev rowsM (i : Fin 4) : Memref sig .tc .hbm S384x768 .f32 := xM.slice (rowsR i) (fun _ => rfl)
abbrev bufM (i : Fin 4) : Memref sig .tc .vmem S384x768 .f32 := (bM.slice (bufR i) (fun _ => rfl)).squeeze S384x768 squeezes_S1x384x768_S384x768
abbrev slotM (k : Fin 7) : Memref sig .tc .vmem S1x768 .f32 := (gM.slice (slotR k) (fun _ => rfl)).squeeze S1x768 squeezes_S1x1x768_S1x768

/-! ## The semaphores -/

/-- The barrier semaphore; the `i`-th load's, the `k`-th send's and the `k`-th receipt's. -/
abbrev barS : Sem sig := (SemArray.scalar (sig.barrier 0 rfl) : Sems sig S_).sem
def loadS (i : Fin 4) : DmaSem sig := ((cc0_scratch3.slice (Rect.unit (s := S4) ![i.val] S1.size (sem4_fit i))).squeeze S_ squeezes_S1_S_).sem
def sendS (k : Fin 7) : DmaSem sig := ((cc0_scratch4.slice (Rect.unit (s := S7) ![k.val] S1.size (sem7_fit k))).squeeze S_ squeezes_S1_S_).sem
def recvS (k : Fin 7) : DmaSem sig := ((cc0_scratch5.slice (Rect.unit (s := S7) ![k.val] S1.size (sem7_fit k))).squeeze S_ squeezes_S1_S_).sem

/-- Their numbers in the device's one array of transfer semaphores. -/
theorem loadS_eq : ∀ i : Fin 4, loadS i = (⟨1 + i.val, by have := i.isLt; show _ < 19; omega⟩ : Fin 19) := by decide
theorem sendS_eq : ∀ k : Fin 7, sendS k = (⟨5 + k.val, by have := k.isLt; show _ < 19; omega⟩ : Fin 19) := by decide
theorem recvS_eq : ∀ k : Fin 7, recvS k = (⟨12 + k.val, by have := k.isLt; show _ < 19; omega⟩ : Fin 19) := by decide

/-! ## The neighbours -/

/-- The device `k + 1` places after `c`, and the one `k + 1` places before it, around the eight. -/
def nxt (c : Dev nD) (k : Fin 7) : Dev nD := ⟨(c.val + k.val + 1) % 8, Nat.mod_lt _ (by decide)⟩
def prv (c : Dev nD) (k : Fin 7) : Dev nD := ⟨(c.val + 7 - k.val) % 8, Nat.mod_lt _ (by decide)⟩

theorem nxt_prv : ∀ (c : Dev nD) (k : Fin 7), nxt (prv c k) k = c := by decide
theorem prv_nxt : ∀ (c : Dev nD) (k : Fin 7), prv (nxt c k) k = c := by decide
theorem nxt_rev : ∀ (c : Dev nD) (k : Fin 7), nxt c k.rev = prv c k := by decide
theorem prv_rev : ∀ (c : Dev nD) (k : Fin 7), prv c k.rev = nxt c k := by decide

/-- The device the `k`-th signal addresses and the one the `k`-th send addresses, as the kernel computes them. -/
def sigDev : Fin 7 → Dev nD → Dev nD
  | 0 => fun d => ⟨k0_dev1 d, k0_dev1_lt d⟩ | 1 => fun d => ⟨k0_dev2 d, k0_dev2_lt d⟩ | 2 => fun d => ⟨k0_dev3 d, k0_dev3_lt d⟩
  | 3 => fun d => ⟨k0_dev4 d, k0_dev4_lt d⟩ | 4 => fun d => ⟨k0_dev5 d, k0_dev5_lt d⟩ | 5 => fun d => ⟨k0_dev6 d, k0_dev6_lt d⟩
  | 6 => fun d => ⟨k0_dev7 d, k0_dev7_lt d⟩
def sendDev : Fin 7 → Dev nD → Dev nD
  | 0 => fun d => ⟨k0_dev8 d, k0_dev8_lt d⟩ | 1 => fun d => ⟨k0_dev9 d, k0_dev9_lt d⟩ | 2 => fun d => ⟨k0_dev10 d, k0_dev10_lt d⟩
  | 3 => fun d => ⟨k0_dev11 d, k0_dev11_lt d⟩ | 4 => fun d => ⟨k0_dev12 d, k0_dev12_lt d⟩ | 5 => fun d => ⟨k0_dev13 d, k0_dev13_lt d⟩
  | 6 => fun d => ⟨k0_dev14 d, k0_dev14_lt d⟩

/-- Both are the device `k + 1` places after. -/
theorem sigDev_eq : ∀ (k : Fin 7) (d : Dev nD), sigDev k d = nxt d k := by decide +kernel
theorem sendDev_eq : ∀ (k : Fin 7) (d : Dev nD), sendDev k d = nxt d k := by decide +kernel

/-! ## The steps -/

variable {F : FTy → Type} [FloatOps F] [Named F]

/-- A device's program. -/
abbrev Prg (F : FTy → Type) [FloatOps F] [Named F] : Type 1 := Prog (TpuEff nD τ sig (Elt F) Λ₀ .tc) PUnit

/-- Start the `i`-th load, for each `i` listed. -/
def starts (is : List (Fin 4)) (r : Prg F) : Prg F := is.foldr (fun i r =>
  Prog.op (.enqueueDma (rowsM i) (.here (bufM i)) (.dma (loadS i)) (View.wordExact_bits rfl) ((View.wordExact_bits rfl).reshape _ _) ⟨Or.inl rfl, trivial⟩) fun _ => r) r
/-- Signal the barrier of the `k`-th neighbour, for each `k` listed. -/
def signals (d : Dev nD) (ks : List (Fin 7)) (r : Prg F) : Prg F := ks.foldr (fun k r =>
  Prog.op (.semSignal (sigDev k d, .tc) barS 1) fun _ => r) r
/-- Await the `i`-th load. -/
def waitLoad (i : Fin 4) (r : Prg F) : Prg F :=
  Prog.op (.waitDma2 (loadS i) (rowsM i) (bufM i) (View.wordExact_bits rfl) ((View.wordExact_bits rfl).reshape _ _)) fun _ => r
/-- Send the partial sum to the `k`-th neighbour, for each `k` listed. -/
def sends (d : Dev nD) (ks : List (Fin 7)) (r : Prg F) : Prg F := ks.foldr (fun k r =>
  Prog.op (.enqueueDma pM (.remote (Dev.tc (sendDev k d)) (slotM k) (.dma (sendS k))) (.dma (recvS k)) (Memref.isWhole_whole _).wordExact
    ((View.wordExact_bits rfl).reshape _ _) ⟨⟨rfl, Or.inl rfl⟩, trivial⟩) fun _ => r) r
/-- Await the `k`-th receipt, for each `k` listed. -/
def waitRecvs (ks : List (Fin 7)) (r : Prg F) : Prg F := ks.foldr (fun k r =>
  Prog.op (.waitDma2 (recvS k) pM (slotM k) (Memref.isWhole_whole _).wordExact ((View.wordExact_bits rfl).reshape _ _)) fun _ => r) r
/-- Await the `k`-th send, for each `k` listed. -/
def waitSends (ks : List (Fin 7)) (r : Prg F) : Prg F := ks.foldr (fun k r =>
  Prog.op (.waitDma2 (sendS k) (slotM k) pM ((View.wordExact_bits rfl).reshape _ _) (Memref.isWhole_whole _).wordExact) fun _ => r) r
/-- Read slot `i` of the loads' buffer. -/
def readBuf (i : Fin 4) (r : Vec F S1x384x768 .f32 → Prg F) : Prg F :=
  Prog.op (.load bM (bufR i).toLoadRect (View.loadsAt_vmem h_S1x384x768)) r
/-- Read, and overwrite, the partial sum. -/
def readPart (r : Vec F S1x768 .f32 → Prg F) : Prg F := Prog.op (.load pM pR.toLoadRect (View.loadsAt_vmem h_S1x768)) r
def writePart (v : FVec F S1x768 .f32) (r : Prg F) : Prg F :=
  Prog.op (.store pM pR v Finset.univ (View.stores_vmem_bits_univ h_S1x768 rfl) (.inl rfl)) fun _ => r

/-- The last stretch: the partial sum and the gathered ones read, the result stored, the sends awaited. -/
def tailP : Prg F :=
  readPart fun v344 => Prog.op (.load gM gR.toLoadRect (View.loadsAt_vmem h_S7x1x768)) fun v345 =>
  Prog.op (.load oM pR.toLoadRect (View.loadsAt_vmem h_S1x768)) fun _ =>
  Prog.op (.store oM pR (k0_pay7 v344 v345) Finset.univ (View.stores_vmem_bits_univ h_S1x768 rfl) (.inl rfl)) fun _ =>
  waitSends [0, 1, 2, 3, 4, 5, 6] (Prog.ret ⟨⟩)

/-- The middle stretch: the barrier awaited, the partial sum sent to the seven others, theirs awaited. -/
def exchangeP (d : Dev nD) : Prg F :=
  Prog.op (.semWait barS 7) fun _ => sends d [0, 1, 2, 3, 4, 5, 6] (waitRecvs [0, 1, 2, 3, 4, 5, 6] tailP)

/-- The four blocks of rows awaited, summed and added up in the partial sum. -/
def sumP (r : Prg F) : Prg F :=
  waitLoad 0 <| readBuf 0 fun v120 => readPart fun _ => writePart (k0_pay2 (k0_pay1 v120)) <|
  waitLoad 1 <| readBuf 1 fun v132 => readPart fun v136 => readPart fun _ => writePart (k0_pay3 v132 v136) <|
  waitLoad 2 <| readBuf 2 fun v146 => readPart fun v150 => readPart fun _ => writePart (k0_pay5 (k0_pay4 v146) v150) <|
  waitLoad 3 <| readBuf 3 fun v160 => readPart fun v164 => readPart fun _ => writePart (k0_pay6 v160 v164) r

/-- The whole body. -/
def bodyP : Prg F := Prog.op .deviceId fun d =>
  starts [0, 1, 2, 3] <| signals d [0, 1, 2, 3, 4, 5, 6] <| sumP (exchangeP d)

set_option maxRecDepth 65536 in
set_option maxHeartbeats 2000000 in
/-- The body the launch runs is this one. -/
theorem body_eq : cc0_body (F := F) xM (Memref.isWhole_whole _) oM (Memref.isWhole_whole _) bM (Memref.isWhole_whole _) pM (Memref.isWhole_whole _)
    gM (Memref.isWhole_whole _) cc0_scratch3 cc0_scratch4 cc0_scratch5 = bodyP := rfl

end Cert.Mean

end
-- ==== Proof.Protocol.lean ====
/-
What the devices promise each other: which semaphore carries which duty, what each duty hands over, what each
device owes at launch, and the order of the waits. One round each:

* the barrier cell of device `c` has seven duties of one unit; duty `d`, paid by the device `d + 1` places before,
  hands `c` that device's row `6 - d` of the gather buffer;
* the `i`-th load's cell hands back rows `384 i …` of the argument and slot `i` of the loads' buffer holding them;
* the `k`-th send's cell hands back one share of the partial sum;
* the `k`-th receipt's cell hands over row `k` of the gather buffer holding the partial sum of the device
  `k + 1` places before.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

/-! ## The resource algebra -/

/-- The pipeline library's copy and this exchange's, whose duties are numbered below seven. -/
abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## What each cell is for -/

/-- The part a semaphore plays. -/
inductive Role where
  | bar | load (i : Fin 4) | send (k : Fin 7) | recv (k : Fin 7) | other
  deriving DecidableEq

/-- The part of each transfer semaphore, by its number. -/
def dmaRole (q : Fin 19) : Role :=
  if h0 : q.val = 0 then .other
  else if h1 : q.val < 5 then .load ⟨q.val - 1, by omega⟩
  else if h2 : q.val < 12 then .send ⟨q.val - 5, by omega⟩
  else .recv ⟨q.val - 12, by have := q.isLt; omega⟩

def role : SemLoc sig → Role
  | .reg _ => .bar
  | .dma q => dmaRole q

theorem role_bar : role (.reg barS) = .bar := rfl
theorem role_load (i : Fin 4) : role (.dma (loadS i)) = .load i := by
  show dmaRole (loadS i) = _; rw [loadS_eq]; revert i; decide
theorem role_send (k : Fin 7) : role (.dma (sendS k)) = .send k := by
  show dmaRole (sendS k) = _; rw [sendS_eq]; revert k; decide
theorem role_recv (k : Fin 7) : role (.dma (recvS k)) = .recv k := by
  show dmaRole (recvS k) = _; rw [recvS_eq]; revert k; decide

abbrev barCell (c : Dev nD) : GSem nD τ sig := ((c : Thread nD τ), .reg barS)
abbrev loadCell (c : Dev nD) (i : Fin 4) : GSem nD τ sig := ((c : Thread nD τ), .dma (loadS i))
abbrev sendCell (c : Dev nD) (k : Fin 7) : GSem nD τ sig := ((c : Thread nD τ), .dma (sendS k))
abbrev recvCell (c : Dev nD) (k : Fin 7) : GSem nD τ sig := ((c : Thread nD τ), .dma (recvS k))

/-! ## The credits -/

/-- What the `i`-th load credits its semaphore, and what the `k`-th send credits both of its. -/
abbrev NL (i : Fin 4) : ℕ := (bufM i).view.dmaCredit
abbrev NS (k : Fin 7) : ℕ := (slotM k).view.dmaCredit
theorem NL_pos (i : Fin 4) : 0 < NL i := View.dmaCredit_pos _ (by decide)
theorem NS_pos (k : Fin 7) : 0 < NS k := View.dmaCredit_pos _ (by decide)
/-- Waiting for a send asks for as much as a send credits. -/
theorem NP_eq (k : Fin 7) : (pM : Memref sig .tc .vmem S1x768 .f32).view.dmaCredit = NS k := by revert k; decide

/-! ## The contents -/

/-- Device `c`'s block of the argument. -/
abbrev xAt (c : Dev nD) : Buf (Elt F) ((xM : Memref sig .tc .hbm S1536x768 .f32).view.loc (c : Thread nD τ)) := m ((c : Thread nD τ).loc main_arg0)

/-- Rows `384 i …` of it, as the load moves them and as they are read back from the loads' buffer. -/
def blkAt (i : Fin 4) (c : Dev nD) : FVec F S384x768 .f32 := (rowsM i).view.read (Elt F) (xAt m c)
def bufV (i : Fin 4) (c : Dev nD) : FVec F S1x384x768 .f32 := fun z => blkAt m i c (Shape.reshapeEquiv squeezes_S1x384x768_S384x768.numel_eq.symm z)

/-- The partial sum after each block of rows, and after all four. -/
def part1 (c : Dev nD) : FVec F S1x768 .f32 := k0_pay2 (k0_pay1 (bufV m 0 c))
def part2 (c : Dev nD) : FVec F S1x768 .f32 := k0_pay3 (bufV m 1 c) (part1 m c)
def part3 (c : Dev nD) : FVec F S1x768 .f32 := k0_pay5 (k0_pay4 (bufV m 2 c)) (part2 m c)
def partAt (c : Dev nD) : FVec F S1x768 .f32 := k0_pay6 (bufV m 3 c) (part3 m c)

/-- The gather buffer once all seven receipts are in: row `k` is the partial sum of the device `k + 1` places before. -/
def gathAt (c : Dev nD) : FVec F S7x1x768 .f32 := fun z => partAt m (prv c (z 0)) (ValueIdx.ix2 (⟨0, Nat.one_pos⟩ : Fin 1) (z 2 : Fin 768))

/-- The result of device `c`. -/
def outAt (c : Dev nD) : FVec F S1x768 .f32 := k0_pay7 (partAt m c) (gathAt m c)

/-- A slot of the loads' buffer that holds a block of rows is read back as that block. -/
theorem read_buf (i : Fin 4) (c : Dev nD) (f : (cc0_scratch0 : Ref sig .tc).ty.Contents (Elt F)) (hf : (bufM i).view.read (Elt F) f = blkAt m i c) :
    (bM : Memref sig .tc .vmem S4x384x768 .f32).view.readAt (Elt F) (bufR i).toLoadRect f = bufV m i c := by
  funext z
  unfold bufV
  rw [← hf]
  show ((bM : Memref sig .tc .vmem S4x384x768 .f32).view.slice (bufR i)).read (Elt F) f z = _
  rw [View.read_apply, View.read_apply]
  show f _ = f (((bM.view.slice (bufR i)).reshape S384x768 squeezes_S1x384x768_S384x768.numel_eq).emb _)
  rw [View.emb_reshape]
  simp [Shape.reshapeEquiv_reshapeEquiv]

/-! ## Holding the pieces -/

/-- Rows `384 i …` of `c`'s argument; slot `i` of its loads' buffer at `f`; row `k` of its gather buffer at `f`. -/
def rowsPts (c : Dev nD) (i : Fin 4) : sProp 𝕄 :=
  (rowsM i).view.loc (c : Thread nD τ) ↦[(rowsM i).view.set]{fullShare} xAt m c
def bufPts (c : Dev nD) (i : Fin 4) (f : Buf (Elt F) ((bufM i).view.loc (c : Thread nD τ))) : sProp 𝕄 :=
  (bufM i).view.loc (c : Thread nD τ) ↦[(bufM i).view.set]{fullShare} f
def slotPts (c : Dev nD) (k : Fin 7) (f : Buf (Elt F) ((slotM k).view.loc (c : Thread nD τ))) : sProp 𝕄 :=
  (slotM k).view.loc (c : Thread nD τ) ↦[(slotM k).view.set]{fullShare} f
/-- The share `q` of `c`'s partial sum at `f`. -/
def partPts (c : Dev nD) (q : PosShare TreeShare) (f : Buf (Elt F) ((pM : Memref sig .tc .vmem S1x768 .f32).view.loc (c : Thread nD τ))) : sProp 𝕄 :=
  (pM : Memref sig .tc .vmem S1x768 .f32).view.loc (c : Thread nD τ) ↦[(pM : Memref sig .tc .vmem S1x768 .f32).view.set]{q} f

instance rowsPts_storable (c : Dev nD) (i) : BI.Storable (upEmb : UEmb _ 𝕄) (rowsPts m c i) := by unfold rowsPts; infer_instance
instance bufPts_storable (c : Dev nD) (i) (f) : BI.Storable (upEmb : UEmb _ 𝕄) (bufPts (F := F) c i f) := by unfold bufPts; infer_instance
instance slotPts_storable (c : Dev nD) (k) (f) : BI.Storable (upEmb : UEmb _ 𝕄) (slotPts (F := F) c k f) := by unfold slotPts; infer_instance
instance partPts_storable (c : Dev nD) (q) (f) : BI.Storable (upEmb : UEmb _ 𝕄) (partPts (F := F) c q f) := by unfold partPts; infer_instance

/-- What each duty hands over. -/
def barPay (c : Dev nD) (d : Fin 7) : sProp 𝕄 := iprop(∃ f, slotPts (F := F) (prv c d) d.rev f)
def loadPay (c : Dev nD) (i : Fin 4) : sProp 𝕄 := iprop((∃ f, ⌜(bufM i).view.read (Elt F) f = blkAt m i c⌝ ∗ bufPts (F := F) c i f) ∗ rowsPts m c i)
def sendPay (c : Dev nD) (k : Fin 7) : sProp 𝕄 := partPts c (shareTok fullShare 7 k) (partAt m c)
def recvPay (c : Dev nD) (k : Fin 7) : sProp 𝕄 := iprop(∃ f, ⌜(slotM k).view.read (Elt F) f = partAt m (prv c k)⌝ ∗ slotPts (F := F) c k f)

/-! ## The schedule -/

def dutiesOf : Role → Finset (Fin 7)
  | .bar => Finset.univ | .other => ∅ | _ => {0}
def amountOf : Role → ℕ
  | .bar => 1 | .load i => NL i | .send k => NS k | .recv k => NS k | .other => 1
def payOf (c : Dev nD) : Role → Fin 7 → sProp 𝕄
  | .bar, d => barPay c d | .load i, _ => loadPay m c i | .send k, _ => sendPay m c k | .recv k, _ => recvPay m c k | .other, _ => iprop(emp)

/-- One round, round 0, on every device's cells. -/
def sched : Rounds.Schedule (GSem nD τ sig) (Fin 7) 𝕄 where
  duties g r := if r = 0 ∧ g.1.2 = .tc then dutiesOf (role g.2) else ∅
  unitless _ := False
  amount g _ _ := amountOf (role g.2)
  payload g _ d := payOf m g.1.1 (role g.2) d
  amount_pos g _ _ _ := by
    rcases role g.2 with _ | i | k | k | _
    · exact Nat.one_pos
    · exact NL_pos i
    · exact NS_pos k
    · exact NS_pos k
    · exact Nat.one_pos

instance sched_storable (g : GSem nD τ sig) (r : ℕ) (d : Fin 7) : BI.Storable (upEmb : UEmb _ 𝕄) ((sched (F := F) m).payload g r d) := by
  show BI.Storable upEmb (payOf m g.1.1 (role g.2) d)
  rcases role g.2 with _ | i | k | k | _ <;> dsimp only [payOf] <;>
    first | (unfold barPay; infer_instance) | (unfold loadPay; infer_instance) | (unfold sendPay; infer_instance) | (unfold recvPay; infer_instance) | infer_instance

section Sched
variable (c : Dev nD)

theorem duties_bar : (sched m).duties (barCell c) 0 = Finset.univ := by dsimp only [sched]; exact if_pos ⟨rfl, rfl⟩
theorem duties_load (i : Fin 4) : (sched m).duties (loadCell c i) 0 = {0} := by dsimp only [sched]; rw [if_pos ⟨rfl, rfl⟩, role_load]; rfl
theorem duties_send (k : Fin 7) : (sched m).duties (sendCell c k) 0 = {0} := by dsimp only [sched]; rw [if_pos ⟨rfl, rfl⟩, role_send]; rfl
theorem duties_recv (k : Fin 7) : (sched m).duties (recvCell c k) 0 = {0} := by dsimp only [sched]; rw [if_pos ⟨rfl, rfl⟩, role_recv]; rfl
theorem duties_later (g : GSem nD τ sig) : ∀ r, 1 ≤ r → (sched m).duties g r = ∅ := fun r hr => by dsimp only [sched]; exact if_neg fun h => by omega

theorem amount_bar (d : Fin 7) : (sched m).amount (barCell c) 0 d = 1 := rfl
theorem amount_load (i : Fin 4) (d : Fin 7) : (sched m).amount (loadCell c i) 0 d = NL i := by dsimp only [sched]; rw [role_load]; rfl
theorem amount_send (k d : Fin 7) : (sched m).amount (sendCell c k) 0 d = NS k := by dsimp only [sched]; rw [role_send]; rfl
theorem amount_recv (k d : Fin 7) : (sched m).amount (recvCell c k) 0 d = NS k := by dsimp only [sched]; rw [role_recv]; rfl

theorem expect_bar : (sched m).expect (barCell c) 0 = 7 := by
  unfold Schedule.expect Schedule.amountOf
  rw [duties_bar, Finset.sum_congr rfl fun d _ => amount_bar m c d, Finset.sum_const, Finset.card_univ, Fintype.card_fin, smul_eq_mul]
theorem expect_load (i : Fin 4) : (sched m).expect (loadCell c i) 0 = NL i := by
  unfold Schedule.expect Schedule.amountOf; rw [duties_load, Finset.sum_singleton, amount_load]
theorem expect_send (k : Fin 7) : (sched m).expect (sendCell c k) 0 = NS k := by
  unfold Schedule.expect Schedule.amountOf; rw [duties_send, Finset.sum_singleton, amount_send]
theorem expect_recv (k : Fin 7) : (sched m).expect (recvCell c k) 0 = NS k := by
  unfold Schedule.expect Schedule.amountOf; rw [duties_recv, Finset.sum_singleton, amount_recv]

theorem payload_bar (d : Fin 7) : (sched m).payload (barCell c) 0 d = barPay c d := rfl
theorem payload_load (i : Fin 4) (d : Fin 7) : (sched m).payload (loadCell c i) 0 d = loadPay m c i := by dsimp only [sched]; rw [role_load]; rfl
theorem payload_send (k d : Fin 7) : (sched m).payload (sendCell c k) 0 d = sendPay m c k := by dsimp only [sched]; rw [role_send]; rfl
theorem payload_recv (k d : Fin 7) : (sched m).payload (recvCell c k) 0 d = recvPay m c k := by dsimp only [sched]; rw [role_recv]; rfl

/-- What each wait brings. -/
theorem rest_bar : bigSep ((sched m).duties (barCell c) 0 \ ∅) (fun d => (sched m).payload (barCell c) 0 d) = bigSep Finset.univ (fun d => barPay (F := F) c d) := by
  rw [Finset.sdiff_empty, duties_bar]; rfl
theorem rest_load (i : Fin 4) : bigSep ((sched m).duties (loadCell c i) 0 \ ∅) (fun d => (sched m).payload (loadCell c i) 0 d) = loadPay m c i := by
  rw [Finset.sdiff_empty, duties_load, bigSep_singleton, payload_load]
theorem rest_send (k : Fin 7) : bigSep ((sched m).duties (sendCell c k) 0 \ ∅) (fun d => (sched m).payload (sendCell c k) 0 d) = sendPay m c k := by
  rw [Finset.sdiff_empty, duties_send, bigSep_singleton, payload_send]
theorem rest_recv (k : Fin 7) : bigSep ((sched m).duties (recvCell c k) 0 \ ∅) (fun d => (sched m).payload (recvCell c k) 0 d) = recvPay m c k := by
  rw [Finset.sdiff_empty, duties_recv, bigSep_singleton, payload_recv]

end Sched

/-! ## The debts and the order of the waits -/

/-- What the sends, and the signals, to the listed neighbours pay. -/
def sendDebt (c : Dev nD) (ks : List (Fin 7)) : CellTallies nD τ sig Unit := (ks.map fun k => tallyAt (recvCell (nxt c k) k) () (NS k)).sum
def barDebt (c : Dev nD) (ks : List (Fin 7)) : CellTallies nD τ sig Unit := (ks.map fun k => tallyAt (barCell (nxt c k)) () 1).sum

/-- The seven neighbours. -/
abbrev all7 : List (Fin 7) := [0, 1, 2, 3, 4, 5, 6]
abbrev all4 : List (Fin 4) := [0, 1, 2, 3]

/-- What device `c` owes at launch: all its sends and all its signals. -/
def O₀ (c : Dev nD) : CellTallies nD τ sig Unit := sendDebt c all7 + barDebt c all7

theorem sendDebt_cons (c : Dev nD) (k : Fin 7) (ks : List (Fin 7)) : sendDebt c (k :: ks) = sendDebt c ks + tallyAt (recvCell (nxt c k) k) () (NS k) := by
  unfold sendDebt; rw [List.map_cons, List.sum_cons, add_comm]
theorem barDebt_cons (c : Dev nD) (k : Fin 7) (ks : List (Fin 7)) : barDebt c (k :: ks) = barDebt c ks + tallyAt (barCell (nxt c k)) () 1 := by
  unfold barDebt; rw [List.map_cons, List.sum_cons, add_comm]

/-- What is owed is owed to a neighbour's receipt or to a neighbour's barrier. -/
theorem sendDebt_pos {c : Dev nD} {g : GSem nD τ sig} {u : Unit} : ∀ {ks : List (Fin 7)}, 0 < sendDebt c ks g u → ∃ k, g = recvCell (nxt c k) k
  | [], h => absurd h (Nat.lt_irrefl 0)
  | k :: ks, h => by
    rw [sendDebt_cons, Pi.add_apply, Finsupp.add_apply, tallyAt_apply] at h
    by_cases hk : g = recvCell (nxt c k) k ∧ u = ()
    · exact ⟨k, hk.1⟩
    · rw [if_neg hk, add_zero] at h; exact sendDebt_pos h
theorem barDebt_pos {c : Dev nD} {g : GSem nD τ sig} {u : Unit} : ∀ {ks : List (Fin 7)}, 0 < barDebt c ks g u → ∃ k, g = barCell (nxt c k)
  | [], h => absurd h (Nat.lt_irrefl 0)
  | k :: ks, h => by
    rw [barDebt_cons, Pi.add_apply, Finsupp.add_apply, tallyAt_apply] at h
    by_cases hk : g = barCell (nxt c k) ∧ u = ()
    · exact ⟨k, hk.1⟩
    · rw [if_neg hk, add_zero] at h; exact barDebt_pos h
theorem O₀_pos {c : Dev nD} {g : GSem nD τ sig} {u : Unit} (h : 0 < O₀ c g u) : (∃ k, g = recvCell (nxt c k) k) ∨ ∃ k, g = barCell (nxt c k) := by
  unfold O₀ at h
  rw [Pi.add_apply, Finsupp.add_apply] at h
  rcases Nat.eq_zero_or_pos (sendDebt c all7 g u) with h0 | h0
  · rw [h0, zero_add] at h; exact .inr (barDebt_pos h)
  · exact .inl (sendDebt_pos h0)

def L (g : GSem nD τ sig) : Finset Unit := if g.1.2 = .tc then {()} else ∅
def lvRole : Role → ℕ
  | .bar => 1 | .recv _ => 2 | _ => 0
/-- Receipts come after barriers, barriers after everything else. -/
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

/-- A device may await a load, or the result's transfer, while it owes its sends and signals. -/
theorem mayWait_low (c : Dev nD) (q : DmaSem sig) (hq : lvRole (role (.dma q)) = 0) (O : CellTallies nD τ sig Unit)
    (hO : ∀ g u, 0 < O g u → (∃ k, g = recvCell (nxt c k) k) ∨ ∃ k, g = barCell (nxt c k)) :
    (levAts L lv : sProp 𝕄) ⊢ MayWait (c : Thread nD τ) (.dma q) () O := by
  refine MayOwe.of_cut (L := L) (lev := lv) 0 (fun p hp => by rw [Finset.mem_singleton.mp hp, L_tc]; exact Finset.mem_singleton_self _)
    (fun g u hg => by rcases hO g u hg with ⟨k, rfl⟩ | ⟨k, rfl⟩ <;> exact Finset.mem_singleton_self _)
    (fun p hp => by rw [Finset.mem_singleton.mp hp]; exact hq.le)
    (fun g u hg => by
      rcases hO g u hg with ⟨k, rfl⟩ | ⟨k, rfl⟩
      · show 0 < lvRole (role _); rw [role_recv]; exact Nat.succ_pos 1
      · show 0 < lvRole (role _); rw [role_bar]; decide)

/-- A device may await its barrier while it owes its sends. -/
theorem mayWait_bar (c : Dev nD) (ks : List (Fin 7)) : (levAts L lv : sProp 𝕄) ⊢ MayWait (c : Thread nD τ) (.reg barS) () (sendDebt c ks) :=
  MayOwe.of_cut (L := L) (lev := lv) 1 (fun p hp => by rw [Finset.mem_singleton.mp hp, L_tc]; exact Finset.mem_singleton_self _)
    (fun g u hg => by obtain ⟨k, rfl⟩ := sendDebt_pos hg; exact Finset.mem_singleton_self _)
    (fun p hp => by rw [Finset.mem_singleton.mp hp]; exact Nat.le_refl 1)
    (fun g u hg => by obtain ⟨k, rfl⟩ := sendDebt_pos hg; show 1 < lvRole (role _); rw [role_recv]; exact Nat.lt_succ_self 1)

/-! ## The cells and what a device starts from -/

/-- A device's nineteen cells: its barrier and its eighteen transfer semaphores (number 0 is the result's). -/
def csem (j : Fin 19) : SemLoc sig := if j = 0 then .reg barS else .dma j
abbrev kcell (x : Dev nD × Fin 19) : GSem nD τ sig := ((x.1 : Thread nD τ), csem x.2)
theorem csem_load (i : Fin 4) : csem (loadS i) = .dma (loadS i) := if_neg (by rw [loadS_eq]; revert i; decide)
theorem csem_send (k : Fin 7) : csem (sendS k) = .dma (sendS k) := if_neg (by rw [sendS_eq]; revert k; decide)
theorem csem_recv (k : Fin 7) : csem (recvS k) = .dma (recvS k) := if_neg (by rw [recvS_eq]; revert k; decide)

/-- Every cell's invariant, at the name `K` gives it, and that its round 0 is reached. -/
def recs (K : Dev nD × Fin 19 → ℕ) : sProp 𝕄 :=
  bigSep Finset.univ fun x => iprop(cellInv ER (sched m) (K x) (kcell x) ∗ reached ER (kcell x) 0)
instance recs_persistent (K : Dev nD × Fin 19 → ℕ) : BI.Persistent (recs m K) := by unfold recs; infer_instance

/-- One cell's, out of all. -/
theorem recs_bar (K : Dev nD × Fin 19 → ℕ) (c : Dev nD) : recs m K ⊢ iprop(cellInv ER (sched m) (K (c, 0)) (barCell c) ∗ reached ER (barCell c) 0) :=
  bigSep_elim (Finset.mem_univ ((c, 0) : Dev nD × Fin 19))
theorem recs_load (K : Dev nD × Fin 19 → ℕ) (c : Dev nD) (i : Fin 4) :
    recs m K ⊢ iprop(cellInv ER (sched m) (K (c, loadS i)) (loadCell c i) ∗ reached ER (loadCell c i) 0) := by
  have h := bigSep_elim (M := 𝕄) (Φ := fun x => iprop(cellInv ER (sched m) (K x) (kcell x) ∗ reached ER (kcell x) 0)) (Finset.mem_univ ((c, loadS i) : Dev nD × Fin 19))
  dsimp only [kcell] at h; rw [csem_load] at h; exact h
theorem recs_send (K : Dev nD × Fin 19 → ℕ) (c : Dev nD) (k : Fin 7) :
    recs m K ⊢ iprop(cellInv ER (sched m) (K (c, sendS k)) (sendCell c k) ∗ reached ER (sendCell c k) 0) := by
  have h := bigSep_elim (M := 𝕄) (Φ := fun x => iprop(cellInv ER (sched m) (K x) (kcell x) ∗ reached ER (kcell x) 0)) (Finset.mem_univ ((c, sendS k) : Dev nD × Fin 19))
  dsimp only [kcell] at h; rw [csem_send] at h; exact h
theorem recs_recv (K : Dev nD × Fin 19 → ℕ) (c : Dev nD) (k : Fin 7) :
    recs m K ⊢ iprop(cellInv ER (sched m) (K (c, recvS k)) (recvCell c k) ∗ reached ER (recvCell c k) 0) := by
  have h := bigSep_elim (M := 𝕄) (Φ := fun x => iprop(cellInv ER (sched m) (K x) (kcell x) ∗ reached ER (kcell x) 0)) (Finset.mem_univ ((c, recvS k) : Dev nD × Fin 19))
  dsimp only [kcell] at h; rw [csem_recv] at h; exact h

end Cert.Mean

end
-- ==== Proof.Body.lean ====
/-
The steps of the body, one rule per kind of step: each is proved once for a list of blocks or neighbours.
-/
module

public import proofs.«01_k».proof.Proof.Protocol

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## A conjunction over a list -/

/-- `Φ` at every member of the list. -/
def sepL {I : Type} : List I → (I → sProp 𝕄) → sProp 𝕄
  | [], _ => iprop(emp)
  | i :: is, Φ => iprop(Φ i ∗ sepL is Φ)

theorem sepL_nil {I : Type} (Φ : I → sProp 𝕄) : sepL [] Φ = iprop(emp) := rfl
theorem sepL_cons {I : Type} (i : I) (is : List I) (Φ : I → sProp 𝕄) : sepL (i :: is) Φ = iprop(Φ i ∗ sepL is Φ) := rfl

/-- Over a list without repetitions it is the conjunction over the members. -/
theorem sepL_eq {I : Type} [DecidableEq I] (Φ : I → sProp 𝕄) : ∀ (is : List I), is.Nodup → bigSep is.toFinset Φ = sepL is Φ
  | [], _ => by rw [List.toFinset_nil, bigSep_empty]; rfl
  | i :: is, h => by
    rw [List.toFinset_cons, bigSep_insert (by rw [List.mem_toFinset]; exact (List.nodup_cons.mp h).1), sepL_eq Φ is (List.nodup_cons.mp h).2]; rfl
theorem sepL_all7 (Φ : Fin 7 → sProp 𝕄) : bigSep Finset.univ Φ = sepL all7 Φ := by
  rw [← sepL_eq Φ all7 (by decide)]; rfl
theorem sepL_all4 (Φ : Fin 4 → sProp 𝕄) : bigSep Finset.univ Φ = sepL all4 Φ := by
  rw [← sepL_eq Φ all4 (by decide)]; rfl

/-! ## The rules -/

abbrev 𝒱₀ : Variants := Variants.none

/-- Running `e` on device `c` ends in `Q`. -/
abbrev runs (c : Dev nD) (e : Prg F) (Q : PUnit.{1} → sProp 𝕄) : sProp 𝕄 :=
  wp frame (wpE (defs₀ (F := F)) 𝒱₀ (c : Thread nD τ) none) Set.univ e Q

/-- What `c` owes, whatever waits it has recorded. -/
abbrev owesE (c : Dev nD) (O : CellTallies nD τ sig Unit) : sProp 𝕄 := iprop(∃ W, owes (c : Thread nD τ) O W)

/-- A landed load makes its payload: the slot now reads as the rows moved. -/
theorem loadPay_intro (c : Dev nD) (i : Fin 4) (f : Buf (Elt F) ((bufM i).view.loc (c : Thread nD τ))) :
    iprop(((bufM i).view.loc (c : Thread nD τ) ↦[(bufM i).view.set]{fullShare} ((bufM i).view.write (Elt F) f ((rowsM i).view.read (Elt F) (xAt m c)) Finset.univ))
      ∗ ((rowsM i).view.loc (c : Thread nD τ) ↦[(rowsM i).view.set]{fullShare} xAt m c)) ⊢ loadPay m c i := by
  unfold loadPay bufPts rowsPts
  iintro ⟨Hd, Hx⟩
  isplitl [Hd]
  · iexists ((bufM i).view.write (Elt F) f ((rowsM i).view.read (Elt F) (xAt m c)) Finset.univ)
    isplitr; · ipureintro; exact View.read_write_univ _ _
    iexact Hd
  iexact Hx

/-- A landed send makes the receiver's payload: the row now reads as the sender's partial sum. -/
theorem recvPay_intro (c : Dev nD) (k : Fin 7) (f : Buf (Elt F) ((slotM k).view.loc (nxt c k : Thread nD τ))) :
    ((slotM k).view.loc (nxt c k : Thread nD τ) ↦[(slotM k).view.set]{fullShare}
        ((slotM k).view.write (Elt F) f ((pM : Memref sig .tc .vmem S1x768 .f32).view.read (Elt F) (partAt m c)) Finset.univ)) ⊢ recvPay m (nxt c k) k := by
  unfold recvPay slotPts
  iintro H
  iexists ((slotM k).view.write (Elt F) f ((pM : Memref sig .tc .vmem S1x768 .f32).view.read (Elt F) (partAt m c)) Finset.univ)
  isplitr; · ipureintro; rw [prv_nxt]; exact View.read_write_univ _ _
  iexact H

/-- A read of slot `i` of the loads' buffer stays inside that slot. -/
theorem buf_set (i : Fin 4) : (bM : Memref sig .tc .vmem S4x384x768 .f32).view.setOn (bufR i).toLoadRect.set ⊆ (bufM i).view.set :=
  Finset.Subset.trans (le_of_eq (View.set_slice (v := (bM : Memref sig .tc .vmem S4x384x768 .f32).view) (bufR i)).symm)
    (le_of_eq (View.set_reshape (v := (bM : Memref sig .tc .vmem S4x384x768 .f32).view.slice (bufR i)) (squeezes_S1x384x768_S384x768).numel_eq).symm)

section Rules
variable (K : Dev nD × Fin 19 → ℕ) (c : Dev nD)

/-- Starting the listed loads: each takes its rows, its slot and its token, and leaves a credit to await it with. -/
theorem runs_starts (Q : PUnit.{1} → sProp 𝕄) (r : Prg F) : ∀ is : List (Fin 4),
    iprop(recs m K ∗ sepL is (fun i => iprop(rowsPts m c i ∗ (∃ f, bufPts (F := F) c i f) ∗ dutyTok ER (loadCell c i) 0 0)))
      ⊢ iprop((sepL is (fun i => cred (tallyAt (loadCell c i) () (NL i))) -∗ runs c r Q) -∗ runs c (starts is r) Q)
  | [] => by
    iintro - Hk
    rw [sepL_nil]
    iapply Hk; iempintro
  | i :: is => by
    rw [sepL_cons, sepL_cons]
    iintro ⟨#HR, ⟨Hx, ⟨%f, Hb⟩, Ht⟩, Hs⟩ Hk
    ihave #HI := (recs_load m K c i) $$ HR
    icases HI with ⟨#Hinv, #Hrch⟩
    unfold rowsPts bufPts
    iapply (Rounds.wp_copy_pointsTo 𝒱₀ ER (sched m) (c : Thread nD τ) none (κ := K (c, loadS i)) (src := rowsM i) (dst := bufM i) (r := 0) (d := 0)
      (by rw [duties_load]; exact Finset.mem_singleton_self _) () (NL i) rfl (amount_load m c i 0)
      (by rw [payload_load]; exact loadPay_intro m c i f)) $$ [Hx Hb Ht]
    · isplitr; · iexact Hinv
      isplitl [Hx]; · iexact Hx
      isplitl [Hb]; · iexact Hb
      isplitl [Ht]; · iexact Ht
      iexact Hrch
    iintro Hc
    iapply (runs_starts Q r is) $$ [Hs]
    · isplitr; · iexact HR
      iexact Hs
    iintro Hcs
    iapply Hk
    isplitl [Hc] <;> iassumption

/-- Signalling the listed neighbours: each signal takes its token and one row of the gather buffer. -/
theorem runs_signals (Q : PUnit.{1} → sProp 𝕄) (r : Prg F) (O : CellTallies nD τ sig Unit) : ∀ ks : List (Fin 7),
    iprop(recs m K ∗ owesE c (O + barDebt c ks) ∗ sepL ks (fun k => iprop((∃ f, slotPts (F := F) c k.rev f) ∗ dutyTok ER (barCell (nxt c k)) 0 k)))
      ⊢ iprop((owesE c O -∗ runs c r Q) -∗ runs c (signals c ks r) Q)
  | [] => by
    iintro ⟨-, Ho, -⟩ Hk
    iapply Hk
    rw [show O + barDebt c [] = O from add_zero O]
    iexact Ho
  | k :: ks => by
    rw [sepL_cons, barDebt_cons]
    unfold owesE
    iintro ⟨#HR, ⟨%W, Ho⟩, ⟨Hb, Ht⟩, Hs⟩ Hk
    ihave #HI := (recs_bar m K (nxt c k)) $$ HR
    icases HI with ⟨#Hinv, #Hrch⟩
    have hs : (signals c (k :: ks) r : Prg F) = Prog.op (.semSignal (sigDev k c, .tc) barS 1) fun _ => signals c ks r := rfl
    rw [hs, sigDev_eq]
    iapply (Rounds.wp_signal 𝒱₀ ER (sched m) (c : Thread nD τ) none (dst := (nxt c k : Thread nD τ)) (κ := K (nxt c k, 0)) (r := 0) (d := k)
      (by rw [duties_bar]; exact Finset.mem_univ _) (amount_bar m (nxt c k) k) () (O + barDebt c ks) (add_assoc _ _ _).symm) $$ [Ho Hb Ht]
    · isplitr; · iexact Hinv
      isplitl [Ho]; · iexact Ho
      isplitl [Ht]; · iexact Ht
      isplitl [Hb]
      · rw [payload_bar]; unfold barPay; rw [prv_nxt]; iexact Hb
      iexact Hrch
    iintro Ho
    iapply (runs_signals Q r O ks) $$ [Ho Hs]
    · isplitr; · iexact HR
      isplitl [Ho]; · unfold owesE; iexists _; iexact Ho
      iexact Hs
    iexact Hk

/-- Awaiting a load: its rows and its slot come back, and its cell is done with. -/
theorem runs_waitLoad (Q : PUnit.{1} → sProp 𝕄) (i : Fin 4) (r : Prg F) (ks : List (Fin 7)) :
    iprop(recs m K ∗ levAts L lv ∗ owesE c (sendDebt c ks) ∗ cred (tallyAt (loadCell c i) () (NL i)) ∗ atPos ER (loadCell c i) 0 ∅ 0)
      ⊢ iprop(((owesE c (sendDebt c ks) ∗ loadPay m c i ∗ semVal (loadCell c i) 0) -∗ runs c r Q) -∗ runs c (waitLoad i r) Q) := by
  unfold owesE
  iintro ⟨#HR, #HL, ⟨%W, Ho⟩, Hc, Ha⟩ Hk
  ihave #HI := (recs_load m K c i) $$ HR
  icases HI with ⟨#Hinv, #Hrch⟩
  iapply (Rounds.wp_wait_rest_token 𝒱₀ ER (sched m) (c : Thread nD τ) none (κ := K (c, loadS i))
      (wpE_waitDma2_eq 𝒱₀ (c : Thread nD τ) none Set.univ) (Set.mem_univ _) () (O := sendDebt c ks) (W := W) (R := 0) (m := 0) (T := ∅)
      (by rw [Nat.zero_add, expect_load])) $$ [Hc Ho Ha]
  · isplitr; · iexact Hinv
    isplitl [Hc]; · iexact Hc
    isplitl [Ho]; · iexact Ho
    isplitr
    · iapply (mayWait_low c (loadS i) (by rw [role_load]; rfl) (sendDebt c ks) (fun g u h => .inl (sendDebt_pos h))); iexact HL
    iexact Ha
  iintro ⟨Ho, Ha, -, Hp⟩
  ihave Hp := (Entails.of_eq (rest_load m c i)) $$ Hp
  imod (Rounds.cell_close ER (sched m) (Set.mem_univ (K (c, loadS i))) (fun h => h) (R := 0 + 1) (duties_later m (loadCell c i))) $$ [Ha] with Hz
  · isplitr; · iexact Hinv
    iexact Ha
  iapply Hk
  isplitl [Ho]; · iexists _; iexact Ho
  isplitl [Hp] <;> iassumption

/-- Awaiting the barrier: each neighbour's row of its gather buffer for this device's partial sum comes with it. -/
theorem runs_waitBar (Q : PUnit.{1} → sProp 𝕄) (r : Prg F) (ks : List (Fin 7)) :
    iprop(recs m K ∗ levAts L lv ∗ owesE c (sendDebt c ks) ∗ cred (tallyAt (barCell c) () 7) ∗ atPos ER (barCell c) 0 ∅ 0)
      ⊢ iprop(((owesE c (sendDebt c ks) ∗ bigSep Finset.univ (fun d => barPay (F := F) c d) ∗ semVal (barCell c) 0) -∗ runs c r Q)
        -∗ runs c (Prog.op (.semWait barS 7) fun _ => r) Q) := by
  unfold owesE
  iintro ⟨#HR, #HL, ⟨%W, Ho⟩, Hc, Ha⟩ Hk
  ihave #HI := (recs_bar m K c) $$ HR
  icases HI with ⟨#Hinv, #Hrch⟩
  iapply (Rounds.wp_wait_rest_token 𝒱₀ ER (sched m) (c : Thread nD τ) none (κ := K (c, 0))
      (wpE_semWait_eq 𝒱₀ (c : Thread nD τ) none Set.univ) (Set.mem_univ _) () (O := sendDebt c ks) (W := W) (R := 0) (m := 0) (T := ∅)
      (by rw [expect_bar])) $$ [Hc Ho Ha]
  · isplitr; · iexact Hinv
    isplitl [Hc]; · iexact Hc
    isplitl [Ho]; · iexact Ho
    isplitr; · iapply (mayWait_bar c ks); iexact HL
    iexact Ha
  iintro ⟨Ho, Ha, -, Hp⟩
  ihave Hp := (Entails.of_eq (rest_bar m c)) $$ Hp
  imod (Rounds.cell_close ER (sched m) (Set.mem_univ (K (c, 0))) (fun h => h) (R := 0 + 1) (duties_later m (barCell c))) $$ [Ha] with Hz
  · isplitr; · iexact Hinv
    iexact Ha
  iapply Hk
  isplitl [Ho]; · iexists _; iexact Ho
  isplitl [Hp] <;> iassumption

/-- Sending to the listed neighbours: each send takes a share of the partial sum, the neighbour's row and both tokens. -/
theorem runs_sends (Q : PUnit.{1} → sProp 𝕄) (r : Prg F) : ∀ ks : List (Fin 7),
    iprop(recs m K ∗ owesE c (sendDebt c ks) ∗ sepL ks (fun k => iprop(sendPay m c k ∗ (∃ f, slotPts (F := F) (nxt c k) k f)
        ∗ dutyTok ER (sendCell c k) 0 0 ∗ dutyTok ER (recvCell (nxt c k) k) 0 0)))
      ⊢ iprop(((owesE c 0 ∗ sepL ks (fun k => cred (tallyAt (sendCell c k) () (NS k)))) -∗ runs c r Q) -∗ runs c (sends c ks r) Q)
  | [] => by
    rw [sepL_nil]
    iintro ⟨-, Ho, -⟩ Hk
    iapply Hk
    isplitl [Ho]; · iexact Ho
    iempintro
  | k :: ks => by
    rw [sepL_cons, sepL_cons, sendDebt_cons]
    unfold owesE
    iintro ⟨#HR, ⟨%W, Ho⟩, ⟨Hp, ⟨%f, Hd⟩, Hts, Htr⟩, Hs⟩ Hk
    ihave #HI := (recs_send m K c k) $$ HR
    icases HI with ⟨#Hinv, #Hrch⟩
    ihave #HI' := (recs_recv m K (nxt c k) k) $$ HR
    icases HI' with ⟨#Hinv', #Hrch'⟩
    have hs : (sends c (k :: ks) r : Prg F) = Prog.op (.enqueueDma pM (.remote (Dev.tc (sendDev k c)) (slotM k) (.dma (sendS k))) (.dma (recvS k)) (Memref.isWhole_whole _).wordExact
      ((View.wordExact_bits rfl).reshape _ _) ⟨⟨rfl, Or.inl rfl⟩, trivial⟩) fun _ => sends c ks r := rfl
    rw [hs]
    generalize hn : sendDev k c = n
    rw [sendDev_eq] at hn
    subst hn
    unfold sendPay partPts slotPts
    iapply (Rounds.wp_send_pointsTo 𝒱₀ ER (sched m) (c : Thread nD τ) none (κ₁ := K (c, sendS k)) (κ₂ := K (nxt c k, recvS k)) (c' := (nxt c k : Thread nD τ))
      (src := pM) (dst := slotM k) (r₁ := 0) (r₂ := 0) (d₁ := 0) (d₂ := 0) (fd := f)
      (by rw [duties_send]; exact Finset.mem_singleton_self _) (by rw [duties_recv]; exact Finset.mem_singleton_self _)
      () () (NS k) rfl (amount_send m c k 0) (amount_recv m (nxt c k) k 0) (sendDebt c ks) rfl (W := W)
      (by rw [payload_send]; unfold sendPay partPts; exact BI.Entails.refl _)
      (by rw [payload_recv]; exact recvPay_intro m c k f)) $$ [Hp Hd Ho Hts Htr]
    · isplitr; · iexact Hinv
      isplitr; · iexact Hinv'
      isplitl [Hp]; · iexact Hp
      isplitl [Hd]; · iexact Hd
      isplitl [Ho]; · iexact Ho
      isplitl [Hts]; · iexact Hts
      isplitr; · iexact Hrch
      isplitl [Htr]; · iexact Htr
      iexact Hrch'
    iintro ⟨Hc, Ho⟩
    iapply (runs_sends Q r ks) $$ [Ho Hs]
    · isplitr; · iexact HR
      isplitl [Ho]; · unfold owesE; iexists _; iexact Ho
      unfold sendPay partPts slotPts
      iexact Hs
    iintro ⟨Ho, Hcs⟩
    iapply Hk
    isplitl [Ho]; · iexact Ho
    isplitl [Hc] <;> iassumption

/-- Awaiting the listed receipts: each brings its row of the gather buffer holding the sender's partial sum. -/
theorem runs_waitRecvs (Q : PUnit.{1} → sProp 𝕄) (r : Prg F) : ∀ ks : List (Fin 7),
    iprop(recs m K ∗ owesE c 0 ∗ sepL ks (fun k => iprop(cred (tallyAt (recvCell c k) () (NS k)) ∗ atPos ER (recvCell c k) 0 ∅ 0)))
      ⊢ iprop(((owesE c 0 ∗ sepL ks (fun k => iprop(recvPay m c k ∗ semVal (recvCell c k) 0))) -∗ runs c r Q) -∗ runs c (waitRecvs ks r) Q)
  | [] => by
    rw [sepL_nil]
    iintro ⟨-, Ho, -⟩ Hk
    iapply Hk
    isplitl [Ho]; · iexact Ho
    iempintro
  | k :: ks => by
    rw [sepL_cons, sepL_cons]
    unfold owesE
    iintro ⟨#HR, ⟨%W, Ho⟩, ⟨Hc, Ha⟩, Hs⟩ Hk
    ihave #HI := (recs_recv m K c k) $$ HR
    icases HI with ⟨#Hinv, #Hrch⟩
    iapply (Rounds.wp_wait_rest_token 𝒱₀ ER (sched m) (c : Thread nD τ) none (κ := K (c, recvS k))
        (wpE_waitDma2_eq 𝒱₀ (c : Thread nD τ) none Set.univ) (Set.mem_univ _) () (O := 0) (W := W) (R := 0) (m := 0) (T := ∅)
        (by rw [Nat.zero_add, expect_recv])) $$ [Hc Ho Ha]
    · isplitr; · iexact Hinv
      isplitl [Hc]; · iexact Hc
      isplitl [Ho]; · iexact Ho
      isplitr; · rw [MayWait_zero]; iempintro
      iexact Ha
    iintro ⟨Ho, Ha, -, Hp⟩
    ihave Hp := (Entails.of_eq (rest_recv m c k)) $$ Hp
    imod (Rounds.cell_close ER (sched m) (Set.mem_univ (K (c, recvS k))) (fun h => h) (R := 0 + 1) (duties_later m (recvCell c k))) $$ [Ha] with Hz
    · isplitr; · iexact Hinv
      iexact Ha
    iapply (runs_waitRecvs Q r ks) $$ [Ho Hs]
    · isplitr; · iexact HR
      isplitl [Ho]; · unfold owesE; iexists _; iexact Ho
      iexact Hs
    iintro ⟨Ho, Hps⟩
    iapply Hk
    isplitl [Ho]; · iexact Ho
    isplitl [Hp Hz]
    · isplitl [Hp] <;> iassumption
    iexact Hps

/-- Awaiting the listed sends: each brings its share of the partial sum back. -/
theorem runs_waitSends (Q : PUnit.{1} → sProp 𝕄) (r : Prg F) : ∀ ks : List (Fin 7),
    iprop(recs m K ∗ owesE c 0 ∗ sepL ks (fun k => iprop(cred (tallyAt (sendCell c k) () (NS k)) ∗ atPos ER (sendCell c k) 0 ∅ 0)))
      ⊢ iprop(((owesE c 0 ∗ sepL ks (fun k => iprop(sendPay m c k ∗ semVal (sendCell c k) 0))) -∗ runs c r Q) -∗ runs c (waitSends ks r) Q)
  | [] => by
    rw [sepL_nil]
    iintro ⟨-, Ho, -⟩ Hk
    iapply Hk
    isplitl [Ho]; · iexact Ho
    iempintro
  | k :: ks => by
    rw [sepL_cons, sepL_cons]
    unfold owesE
    iintro ⟨#HR, ⟨%W, Ho⟩, ⟨Hc, Ha⟩, Hs⟩ Hk
    ihave #HI := (recs_send m K c k) $$ HR
    icases HI with ⟨#Hinv, #Hrch⟩
    rw [← NP_eq k]
    iapply (Rounds.wp_wait_rest_token 𝒱₀ ER (sched m) (c : Thread nD τ) none (κ := K (c, sendS k))
        (wpE_waitDma2_eq 𝒱₀ (c : Thread nD τ) none Set.univ) (Set.mem_univ _) () (O := 0) (W := W) (R := 0) (m := 0) (T := ∅)
        (by rw [Nat.zero_add, expect_send])) $$ [Hc Ho Ha]
    · isplitr; · iexact Hinv
      isplitl [Hc]; · iexact Hc
      isplitl [Ho]; · iexact Ho
      isplitr; · rw [MayWait_zero]; iempintro
      iexact Ha
    iintro ⟨Ho, Ha, -, Hp⟩
    ihave Hp := (Entails.of_eq (rest_send m c k)) $$ Hp
    imod (Rounds.cell_close ER (sched m) (Set.mem_univ (K (c, sendS k))) (fun h => h) (R := 0 + 1) (duties_later m (sendCell c k))) $$ [Ha] with Hz
    · isplitr; · iexact Hinv
      iexact Ha
    iapply (runs_waitSends Q r ks) $$ [Ho Hs]
    · isplitr; · iexact HR
      isplitl [Ho]; · unfold owesE; iexists _; iexact Ho
      iexact Hs
    iintro ⟨Ho, Hps⟩
    iapply Hk
    isplitl [Ho]; · iexact Ho
    isplitl [Hp Hz]
    · isplitl [Hp] <;> iassumption
    iexact Hps

/-! ## Reading and writing -/

/-- Reading a slot that holds its block of rows. -/
theorem runs_readBuf (Q : PUnit.{1} → sProp 𝕄) (i : Fin 4) (r : Vec F S1x384x768 .f32 → Prg F) :
    loadPay m c i ⊢ iprop((loadPay m c i -∗ runs c (r (bufV m i c)) Q) -∗ runs c (readBuf i r) Q) := by
  unfold loadPay bufPts
  iintro ⟨⟨%f, %hf, Hb⟩, Hx⟩ Hk
  unfold readBuf
  iapply (wp_load 𝒱₀ (c : Thread nD τ) none Set.univ (m := bM) (S := (bufM i).view.set) (f := f) (buf_set i)) $$ Hb
  iintro Hb
  rw [read_buf m i c f hf]
  iapply Hk
  isplitl [Hb]
  · iexists f
    isplitr; · ipureintro; exact hf
    iexact Hb
  iexact Hx

omit [FloatOps F] [Named F] in
theorem hz2 : (![0, 0] : Fin 2 → Nat) = fun _ => 0 := funext fun a => by fin_cases a <;> rfl
omit [FloatOps F] [Named F] in
theorem hz3 : (![0, 0, 0] : Fin 3 → Nat) = fun _ => 0 := funext fun a => by fin_cases a <;> rfl

/-- Reading the partial sum, at any share of it. -/
theorem runs_readPart (Q : PUnit.{1} → sProp 𝕄) (q : PosShare TreeShare) (f : FVec F S1x768 .f32) (r : Vec F S1x768 .f32 → Prg F) :
    partPts c q f ⊢ iprop((partPts c q f -∗ runs c (r f) Q) -∗ runs c (readPart r) Q) := by
  unfold partPts readPart
  iintro Hp Hk
  iapply (wp_load 𝒱₀ (c : Thread nD τ) none Set.univ (m := pM) (by rw [View.set_whole]; exact Finset.subset_univ _)) $$ Hp
  iintro Hp
  rw [show (pM : Memref sig .tc .vmem S1x768 .f32).view.readAt (Elt F) pR.toLoadRect f = f from Memref.readAt_unit_zero (Elt F) cc0_scratch1 hz2 _ f]
  iapply Hk; iexact Hp

/-- Overwriting the partial sum. -/
theorem runs_writePart (Q : PUnit.{1} → sProp 𝕄) (f w : FVec F S1x768 .f32) (r : Prg F) :
    partPts c fullShare f ⊢ iprop((partPts c fullShare w -∗ runs c r Q) -∗ runs c (writePart w r) Q) := by
  unfold partPts writePart
  iintro Hp Hk
  iapply (wp_store 𝒱₀ (c : Thread nD τ) none Set.univ (m := pM) (r := pR) (Mk := Finset.univ) (S := (pM : Memref sig .tc .vmem S1x768 .f32).view.set) (f := f)
    (by rw [View.set_whole]; exact Finset.subset_univ _)) $$ Hp
  iintro Hp
  rw [show ((pM : Memref sig .tc .vmem S1x768 .f32).access pR : View sig .tc _ _ _).write (Elt F) f w Finset.univ = w from
    Memref.write_access_unit_zero_univ (Elt F) cc0_scratch1 hz2 _ f w]
  iapply Hk; iexact Hp

end Rules

end Cert.Mean

end
-- ==== Proof.Pieces.lean ====
/-
The buffers cut in the pieces the devices exchange, and put together again.
-/
module

public import proofs.«01_k».proof.Proof.Body
public import Idealize.ShloMosaic.Lib.Ring
public import Idealize.ShloMosaic.Lib.ValueLayout

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Buffers cut in pieces -/

theorem rows_set (i : Fin 4) : (rowsM i).view.set = (rowsR i).set := View.set_slice_whole main_arg0 (rowsR i)
theorem bufM_set (i : Fin 4) : (bufM i).view.set = (bufR i).set :=
  (View.set_reshape (v := (bM : Memref sig .tc .vmem S4x384x768 .f32).view.slice (bufR i)) (squeezes_S1x384x768_S384x768).numel_eq).trans
    (View.set_slice_whole cc0_scratch0 (bufR i))
theorem slot_set (k : Fin 7) : (slotM k).view.set = (slotR k).set :=
  (View.set_reshape (v := (gM : Memref sig .tc .vmem S7x1x768 .f32).view.slice (slotR k)) (squeezes_S1x1x768_S1x768).numel_eq).trans
    (View.set_slice_whole cc0_scratch2 (slotR k))

theorem rows_disj (i j : Fin 4) (h : i ≠ j) : Disjoint (rowsR i).set (rowsR j).set :=
  Ring.lead_disjoint (s := S1536x768) (NB := 4) 0 384 (fun i => ![384 * i.val, 0]) S384x768.size rows_fit (fun _ => rfl) rfl i j h
theorem rows_cover : Finset.univ.biUnion (fun i : Fin 4 => (rowsR i).set) = Finset.univ :=
  Ring.lead_cover (s := S1536x768) (NB := 4) 0 384 (fun i => ![384 * i.val, 0]) S384x768.size rows_fit (fun _ => rfl)
    (fun i a h => by fin_cases a; exact absurd rfl h; rfl) rfl (fun a h => by fin_cases a; exact absurd rfl h; rfl) (by decide)
theorem bufR_disj (i j : Fin 4) (h : i ≠ j) : Disjoint (bufR i).set (bufR j).set :=
  Ring.lead_disjoint (s := S4x384x768) (NB := 4) 0 1 (fun i => ![i.val, 0, 0]) S1x384x768.size buf_fit (fun i => (Nat.one_mul _).symm) rfl i j h
theorem bufR_cover : Finset.univ.biUnion (fun i : Fin 4 => (bufR i).set) = Finset.univ :=
  Ring.lead_cover (s := S4x384x768) (NB := 4) 0 1 (fun i => ![i.val, 0, 0]) S1x384x768.size buf_fit (fun i => (Nat.one_mul _).symm)
    (fun i a h => by fin_cases a; exact absurd rfl h; rfl; rfl) rfl (fun a h => by fin_cases a; exact absurd rfl h; rfl; rfl) (by decide)
theorem slotR_disj (i j : Fin 7) (h : i ≠ j) : Disjoint (slotR i).set (slotR j).set :=
  Ring.lead_disjoint (s := S7x1x768) (NB := 7) 0 1 (fun i => ![i.val, 0, 0]) S1x1x768.size slot_fit (fun i => (Nat.one_mul _).symm) rfl i j h
theorem slotR_cover : Finset.univ.biUnion (fun i : Fin 7 => (slotR i).set) = Finset.univ :=
  Ring.lead_cover (s := S7x1x768) (NB := 7) 0 1 (fun i => ![i.val, 0, 0]) S1x1x768.size slot_fit (fun i => (Nat.one_mul _).symm)
    (fun i a h => by fin_cases a; exact absurd rfl h; rfl; rfl) rfl (fun a h => by fin_cases a; exact absurd rfl h; rfl; rfl) (by decide)

/-- The argument is its four blocks of rows; -/
theorem rows_split (c : Dev nD) : (((c : Thread nD τ).loc main_arg0) ↦{fullShare} xAt m c : sProp 𝕄) = bigSep Finset.univ fun i => rowsPts m c i := by
  rw [Ring.pointsTo_blocks (ℓ := (c : Thread nD τ).loc main_arg0) (fun i : Fin 4 => (rowsR i).set) rows_disj rows_cover]
  refine bigSep_congr fun i _ => ?_
  unfold rowsPts; rw [rows_set]
/-- the loads' buffer is its four slots; -/
theorem buf_split (c : Dev nD) (f : Buf (Elt F) ((c : Thread nD τ).loc cc0_scratch0)) :
    (((c : Thread nD τ).loc cc0_scratch0) ↦{fullShare} f : sProp 𝕄) = bigSep Finset.univ fun i => bufPts (F := F) c i f := by
  rw [Ring.pointsTo_blocks (ℓ := (c : Thread nD τ).loc cc0_scratch0) (fun i : Fin 4 => (bufR i).set) bufR_disj bufR_cover]
  refine bigSep_congr fun i _ => ?_
  unfold bufPts; rw [bufM_set]
/-- the gather buffer is its seven rows. -/
theorem slot_split (c : Dev nD) (f : Buf (Elt F) ((c : Thread nD τ).loc cc0_scratch2)) :
    (((c : Thread nD τ).loc cc0_scratch2) ↦{fullShare} f : sProp 𝕄) = bigSep Finset.univ fun k => slotPts (F := F) c k f := by
  rw [Ring.pointsTo_blocks (ℓ := (c : Thread nD τ).loc cc0_scratch2) (fun k : Fin 7 => (slotR k).set) slotR_disj slotR_cover]
  refine bigSep_congr fun k _ => ?_
  unfold slotPts; rw [slot_set]
theorem part_eq (c : Dev nD) (q : PosShare TreeShare) (f : Buf (Elt F) ((c : Thread nD τ).loc cc0_scratch1)) :
    (((c : Thread nD τ).loc cc0_scratch1) ↦{q} f : sProp 𝕄) = partPts (F := F) c q f := by
  unfold partPts; rw [View.set_whole]

/-- The four slots, whatever they hold, are the loads' buffer. -/
theorem buf_join (c : Dev nD) (f₀ : Buf (Elt F) ((c : Thread nD τ).loc cc0_scratch0)) :
    bigSep Finset.univ (fun i => iprop(∃ f, bufPts (F := F) c i f)) ⊢ (iprop(∃ g, ((c : Thread nD τ).loc cc0_scratch0) ↦{fullShare} g) : sProp 𝕄) := by
  have h := Ring.pointsTo_blocks_join_exists (Ix := Unit) (Val := Elt F) (Name := ℕ) (U := UU) (Lvl := ℕ) (q := fullShare) (ℓ := (c : Thread nD τ).loc cc0_scratch0) (fun i : Fin 4 => (bufR i).set) bufR_disj bufR_cover f₀
  refine (Entails.of_eq (bigSep_congr fun i _ => ?_)).trans h
  unfold bufPts; rw [bufM_set]

/-- Where the rows of the gather buffer sit in it. -/
theorem slot_emb (k : Fin 7) (a : Fin 1) (b : Fin 768) : (slotM k).view.emb (ValueIdx.ix2 a b) = ValueIdx.ix3 k (⟨0, Nat.one_pos⟩ : Fin 1) b := by
  show (slotR k).emb (Shape.reshapeEquiv (s := S1x1x768) (s' := S1x768) _ (ValueIdx.ix2 a b)) = _
  rw [ValueIdx.reshapeEquiv_ix2_1ab]
  funext j
  fin_cases j
  · exact Fin.ext (by show k.val + 1 * 0 = k.val; omega)
  · exact Fin.ext (by show 0 + 1 * a.val = 0; have := a.isLt; omega)
  · exact Fin.ext (by show 0 + 1 * b.val = b.val; omega)

/-- The seven rows, each holding its sender's partial sum, are the gather buffer holding all of them. -/
theorem gath_join (c : Dev nD) :
    bigSep Finset.univ (fun k => recvPay m c k) ⊢ (((c : Thread nD τ).loc cc0_scratch2) ↦{fullShare} gathAt m c : sProp 𝕄) := by
  rw [slot_split]
  refine bigSep_mono fun k _ => ?_
  show recvPay m c k ⊢ slotPts (F := F) c k (gathAt m c)
  unfold recvPay slotPts
  iintro ⟨%f, %hf, H⟩
  have hg : ∀ i ∈ (slotM k).view.set, f i = gathAt m c i := fun i hi => by
    obtain ⟨y, -, rfl⟩ := Finset.mem_map.mp hi
    obtain ⟨a, b, rfl⟩ : ∃ (a : Fin 1) (b : Fin 768), y = ValueIdx.ix2 a b := ⟨y 0, y 1, ValueIdx.eq_ix2 y⟩
    have h := congrFun hf (ValueIdx.ix2 a b)
    rw [View.read_apply] at h
    refine h.trans ?_
    rw [slot_emb]
    unfold gathAt
    rw [show a = (⟨0, Nat.one_pos⟩ : Fin 1) from Subsingleton.elim _ _]
  iapply (Entails.of_eq (pointsTo_congr hg)); iexact H

end Cert.Mean

end
-- ==== Proof.Device.lean ====
/-
The whole body of one device, stretch by stretch: the loads and the partial sum, the exchange, the result.
-/
module

public import proofs.«01_k».proof.Proof.Pieces

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem sep_swap7 {A B : Fin 7 → sProp 𝕄} : iprop(sepL all7 A ∗ sepL all7 B) = sepL all7 (fun k => iprop(A k ∗ B k)) := by
  rw [← sepL_all7, ← sepL_all7, ← sepL_all7]; exact (bigSep_sep' _ _ _).symm
theorem sep_swap4 {A B : Fin 4 → sProp 𝕄} : iprop(sepL all4 A ∗ sepL all4 B) = sepL all4 (fun k => iprop(A k ∗ B k)) := by
  rw [← sepL_all4, ← sepL_all4, ← sepL_all4]; exact (bigSep_sep' _ _ _).symm

section Stages
variable (K : Dev nD × Fin 19 → ℕ) (c : Dev nD)

/-- A device's result buffer at `f`. -/
abbrev outPts (c : Dev nD) (f : Buf (Elt F) ((c : Thread nD τ).loc cc0_stg0_0)) : sProp 𝕄 := ((c : Thread nD τ).loc cc0_stg0_0) ↦{fullShare} f
abbrev gathPts (c : Dev nD) (f : Buf (Elt F) ((c : Thread nD τ).loc cc0_scratch2)) : sProp 𝕄 := ((c : Thread nD τ).loc cc0_scratch2) ↦{fullShare} f

/-- The four blocks awaited and summed: the partial sum is the device's. -/
theorem runs_sum (Q : PUnit.{1} → sProp 𝕄) (r : Prg F) (f : FVec F S1x768 .f32) :
    iprop(recs m K ∗ levAts L lv ∗ owesE c (sendDebt c all7) ∗ sepL all4 (fun i => iprop(cred (tallyAt (loadCell c i) () (NL i)) ∗ atPos ER (loadCell c i) 0 ∅ 0))
        ∗ partPts c fullShare f)
      ⊢ iprop(((owesE c (sendDebt c all7) ∗ sepL all4 (fun i => iprop(loadPay m c i ∗ semVal (loadCell c i) 0)) ∗ partPts c fullShare (partAt m c)) -∗ runs c r Q)
        -∗ runs c (sumP r) Q) := by
  rw [sepL_cons, sepL_cons, sepL_cons, sepL_cons, sepL_cons, sepL_cons, sepL_cons, sepL_cons, sepL_nil, sepL_nil]
  iintro ⟨#HR, #HL, Ho, ⟨⟨Hc0, Ha0⟩, ⟨Hc1, Ha1⟩, ⟨Hc2, Ha2⟩, ⟨Hc3, Ha3⟩, -⟩, Hp⟩ Hk
  unfold sumP
  iapply (runs_waitLoad m K c Q 0 _ all7) $$ [Ho Hc0 Ha0]
  · isplitr; · iexact HR
    isplitr; · iexact HL
    isplitl [Ho]; · iexact Ho
    isplitl [Hc0] <;> iassumption
  iintro ⟨Ho, Hb0, Hz0⟩
  iapply (runs_readBuf m c Q 0) $$ Hb0; iintro Hb0
  iapply (runs_readPart c Q) $$ Hp; iintro Hp
  iapply (runs_writePart c Q) $$ Hp; iintro Hp
  iapply (runs_waitLoad m K c Q 1 _ all7) $$ [Ho Hc1 Ha1]
  · isplitr; · iexact HR
    isplitr; · iexact HL
    isplitl [Ho]; · iexact Ho
    isplitl [Hc1] <;> iassumption
  iintro ⟨Ho, Hb1, Hz1⟩
  iapply (runs_readBuf m c Q 1) $$ Hb1; iintro Hb1
  iapply (runs_readPart c Q) $$ Hp; iintro Hp
  iapply (runs_readPart c Q) $$ Hp; iintro Hp
  iapply (runs_writePart c Q) $$ Hp; iintro Hp
  iapply (runs_waitLoad m K c Q 2 _ all7) $$ [Ho Hc2 Ha2]
  · isplitr; · iexact HR
    isplitr; · iexact HL
    isplitl [Ho]; · iexact Ho
    isplitl [Hc2] <;> iassumption
  iintro ⟨Ho, Hb2, Hz2⟩
  iapply (runs_readBuf m c Q 2) $$ Hb2; iintro Hb2
  iapply (runs_readPart c Q) $$ Hp; iintro Hp
  iapply (runs_readPart c Q) $$ Hp; iintro Hp
  iapply (runs_writePart c Q) $$ Hp; iintro Hp
  iapply (runs_waitLoad m K c Q 3 _ all7) $$ [Ho Hc3 Ha3]
  · isplitr; · iexact HR
    isplitr; · iexact HL
    isplitl [Ho]; · iexact Ho
    isplitl [Hc3] <;> iassumption
  iintro ⟨Ho, Hb3, Hz3⟩
  iapply (runs_readBuf m c Q 3) $$ Hb3; iintro Hb3
  iapply (runs_readPart c Q) $$ Hp; iintro Hp
  iapply (runs_readPart c Q) $$ Hp; iintro Hp
  iapply (runs_writePart c Q) $$ Hp; iintro Hp
  iapply Hk
  isplitl [Ho]; · iexact Ho
  isplitr [Hp]
  · isplitl [Hb0 Hz0]; · isplitl [Hb0] <;> iassumption
    isplitl [Hb1 Hz1]; · isplitl [Hb1] <;> iassumption
    isplitl [Hb2 Hz2]; · isplitl [Hb2] <;> iassumption
    isplitl [Hb3 Hz3]; · isplitl [Hb3] <;> iassumption
    iempintro
  · unfold partAt part3 part2 part1; iexact Hp

/-- The result computed from the device's partial sum and the seven gathered, and stored; the sends awaited. -/
theorem runs_tail (Q : PUnit.{1} → sProp 𝕄) (q : PosShare TreeShare) (f : Buf (Elt F) ((c : Thread nD τ).loc cc0_stg0_0)) :
    iprop(recs m K ∗ owesE c 0 ∗ partPts c q (partAt m c) ∗ gathPts c (gathAt m c) ∗ outPts c f
        ∗ sepL all7 (fun k => iprop(cred (tallyAt (sendCell c k) () (NS k)) ∗ atPos ER (sendCell c k) 0 ∅ 0)))
      ⊢ iprop(((owesE c 0 ∗ partPts c q (partAt m c) ∗ gathPts c (gathAt m c) ∗ outPts c (outAt m c)
          ∗ sepL all7 (fun k => iprop(sendPay m c k ∗ semVal (sendCell c k) 0))) -∗ Q ⟨⟩) -∗ runs c tailP Q) := by
  iintro ⟨#HR, Ho, Hp, Hg, Hout, Hs⟩ Hk
  unfold tailP
  iapply (runs_readPart c Q) $$ Hp; iintro Hp
  iapply (wp_load 𝒱₀ (c : Thread nD τ) none Set.univ (m := gM) (Finset.subset_univ _)) $$ Hg; iintro Hg
  rw [show (gM : Memref sig .tc .vmem S7x1x768 .f32).view.readAt (Elt F) gR.toLoadRect (gathAt m c) = gathAt m c from
    Memref.readAt_unit_zero (Elt F) cc0_scratch2 hz3 _ _]
  iapply (wp_load 𝒱₀ (c : Thread nD τ) none Set.univ (m := oM) (Finset.subset_univ _)) $$ Hout; iintro Hout
  iapply (wp_store 𝒱₀ (c : Thread nD τ) none Set.univ (m := oM) (r := pR) (Mk := Finset.univ) (Finset.subset_univ _)) $$ Hout; iintro Hout
  rw [show ((oM : Memref sig .tc .vmem S1x768 .f32).access pR : View sig .tc _ _ _).write (Elt F) f (k0_pay7 (partAt m c) (gathAt m c)) Finset.univ = outAt m c from
    Memref.write_access_unit_zero_univ (Elt F) cc0_stg0_0 hz2 _ f _]
  iapply (runs_waitSends m K c Q (Prog.ret ⟨⟩) all7) $$ [Ho Hs]
  · isplitr; · iexact HR
    isplitl [Ho] <;> iassumption
  iintro ⟨Ho, Hs⟩
  unfold runs
  rw [wp_ret]; imodintro
  iapply Hk
  isplitl [Ho]; · iexact Ho
  isplitl [Hp]; · iexact Hp
  isplitl [Hg]; · iexact Hg
  isplitl [Hout] <;> iassumption

/-- The partial sum cut in one share for each send and one kept; -/
theorem part_shares : partPts c fullShare (partAt m c) ⊢ iprop(partPts c (shareDrop fullShare 7) (partAt m c) ∗ bigSep Finset.univ fun k => sendPay m c k) := by
  unfold sendPay partPts; exact Transfers.pointsTo_toks_split fullShare 7
/-- and put together again. -/
theorem part_whole : iprop(partPts c (shareDrop fullShare 7) (partAt m c) ∗ bigSep Finset.univ fun k => sendPay m c k) ⊢ partPts c fullShare (partAt m c) := by
  unfold sendPay partPts; exact Transfers.pointsTo_toks_join fullShare 7

/-- What the slots and the rows hold, forgotten. -/
theorem buf_some (f : Buf (Elt F) ((c : Thread nD τ).loc cc0_scratch0)) :
    bigSep Finset.univ (fun i => bufPts (F := F) c i f) ⊢ bigSep Finset.univ fun i => iprop(∃ f, bufPts (F := F) c i f) :=
  bigSep_mono fun i _ => show bufPts c i f ⊢ iprop(∃ f, bufPts (F := F) c i f) by iintro H; iexists f; iexact H
theorem slot_some (f : Buf (Elt F) ((c : Thread nD τ).loc cc0_scratch2)) :
    bigSep Finset.univ (fun k => slotPts (F := F) c k f) ⊢ bigSep Finset.univ fun k => iprop(∃ f, slotPts (F := F) c k f) :=
  bigSep_mono fun k _ => show slotPts c k f ⊢ iprop(∃ f, slotPts (F := F) c k f) by iintro H; iexists f; iexact H
theorem buf_forget : bigSep Finset.univ (fun i => iprop(∃ f, ⌜(bufM i).view.read (Elt F) f = blkAt m i c⌝ ∗ bufPts (F := F) c i f))
    ⊢ bigSep Finset.univ fun i => iprop(∃ f, bufPts (F := F) c i f) :=
  bigSep_mono fun i _ => show iprop(∃ f, ⌜(bufM i).view.read (Elt F) f = blkAt m i c⌝ ∗ bufPts (F := F) c i f) ⊢ iprop(∃ f, bufPts (F := F) c i f) by
    iintro ⟨%f, -, H⟩; iexists f; iexact H

/-- The rows the barrier brings are the neighbours' rows for this device, in the order of the sends. -/
theorem bar_rows : bigSep Finset.univ (fun d => barPay (F := F) c d) = sepL all7 (fun k => iprop(∃ f, slotPts (F := F) (nxt c k) k f)) := by
  rw [← sepL_all7, bigSep_univ_equiv Fin.revPerm (fun d => barPay (F := F) c d)]
  refine bigSep_congr fun k _ => ?_
  unfold barPay
  show iprop(∃ f, slotPts (F := F) (prv c k.rev) k.rev.rev f) = _
  rw [prv_rev, Fin.rev_rev]
/-- A device's own rows, in the order of the signals that hand them over. -/
theorem own_rows : bigSep Finset.univ (fun k => iprop(∃ f, slotPts (F := F) c k f)) = sepL all7 (fun k => iprop(∃ f, slotPts (F := F) c k.rev f)) := by
  rw [← sepL_all7, bigSep_univ_equiv Fin.revPerm (fun k => iprop(∃ f, slotPts (F := F) c k f))]
  rfl

/-- The exchange: from its own partial sum to the result. -/
theorem runs_exchange (Q : PUnit.{1} → sProp 𝕄) (f : Buf (Elt F) ((c : Thread nD τ).loc cc0_stg0_0)) :
    iprop(recs m K ∗ levAts L lv ∗ owesE c (sendDebt c all7) ∗ cred (tallyAt (barCell c) () 7) ∗ atPos ER (barCell c) 0 ∅ 0
        ∗ partPts c fullShare (partAt m c)
        ∗ sepL all7 (fun k => iprop(dutyTok ER (sendCell c k) 0 0 ∗ dutyTok ER (recvCell (nxt c k) k) 0 0))
        ∗ sepL all7 (fun k => iprop(cred (tallyAt (recvCell c k) () (NS k)) ∗ atPos ER (recvCell c k) 0 ∅ 0))
        ∗ sepL all7 (fun k => atPos ER (sendCell c k) 0 ∅ 0) ∗ outPts c f)
      ⊢ iprop(((owesE c 0 ∗ partPts c fullShare (partAt m c) ∗ gathPts c (gathAt m c) ∗ outPts c (outAt m c) ∗ semVal (barCell c) 0
          ∗ sepL all7 (fun k => semVal (recvCell c k) 0) ∗ sepL all7 (fun k => semVal (sendCell c k) 0)) -∗ Q ⟨⟩) -∗ runs c (exchangeP c) Q) := by
  iintro ⟨#HR, #HL, Ho, Hcb, Hab, Hp, Ht, Hr, Has, Hout⟩ Hk
  unfold exchangeP
  iapply (runs_waitBar m K c Q _ all7) $$ [Ho Hcb Hab]
  · isplitr; · iexact HR
    isplitr; · iexact HL
    isplitl [Ho]; · iexact Ho
    isplitl [Hcb] <;> iassumption
  iintro ⟨Ho, Hrows, Hzb⟩
  ihave Hrows := (Entails.of_eq (bar_rows c)) $$ Hrows
  ihave Hp := (part_shares m c) $$ Hp
  icases Hp with ⟨Hp, Htoks⟩
  ihave Htoks := (Entails.of_eq (sepL_all7 (fun k => sendPay m c k))) $$ Htoks
  ihave H := (Entails.of_eq sep_swap7) $$ [Hrows Ht]
  · isplitl [Hrows] <;> iassumption
  ihave H := (Entails.of_eq sep_swap7) $$ [Htoks H]
  · isplitl [Htoks] <;> iassumption
  iapply (runs_sends m K c Q _ all7) $$ [Ho H]
  · isplitr; · iexact HR
    isplitl [Ho] <;> iassumption
  iintro ⟨Ho, Hcs⟩
  iapply (runs_waitRecvs m K c Q _ all7) $$ [Ho Hr]
  · isplitr; · iexact HR
    isplitl [Ho] <;> iassumption
  iintro ⟨Ho, Hr⟩
  ihave Hr := (Entails.of_eq sep_swap7.symm) $$ Hr
  icases Hr with ⟨Hr, Hzr⟩
  ihave Hr := (Entails.of_eq (sepL_all7 _).symm) $$ Hr
  ihave Hg := (gath_join m c) $$ Hr
  ihave Hcs := (Entails.of_eq sep_swap7) $$ [Hcs Has]
  · isplitl [Hcs] <;> iassumption
  iapply (runs_tail m K c Q (shareDrop fullShare 7) f) $$ [Ho Hp Hg Hout Hcs]
  · isplitr; · iexact HR
    isplitl [Ho]; · iexact Ho
    isplitl [Hp]; · iexact Hp
    isplitl [Hg]; · iexact Hg
    isplitl [Hout] <;> iassumption
  iintro ⟨Ho, Hp, Hg, Hout, Hs⟩
  ihave Hs := (Entails.of_eq sep_swap7.symm) $$ Hs
  icases Hs with ⟨Hs, Hzs⟩
  ihave Hs := (Entails.of_eq (sepL_all7 _).symm) $$ Hs
  iapply Hk
  isplitl [Ho]; · iexact Ho
  isplitl [Hp Hs]
  · iapply (part_whole m c)
    isplitl [Hp] <;> iassumption
  isplitl [Hg]; · iexact Hg
  isplitl [Hout]; · iexact Hout
  isplitl [Hzb]; · iexact Hzb
  isplitl [Hzr] <;> iassumption

/-- What a device starts from, besides the records: its positions, its tokens, its credits, its buffers. -/
def bodyPre : sProp 𝕄 :=
  iprop(levAts L lv ∗ owesE c (O₀ c)
    ∗ (cred (tallyAt (barCell c) () 7) ∗ atPos ER (barCell c) 0 ∅ 0)
    ∗ sepL all4 (fun i => dutyTok ER (loadCell c i) 0 0) ∗ sepL all4 (fun i => atPos ER (loadCell c i) 0 ∅ 0)
    ∗ sepL all7 (fun k => dutyTok ER (barCell (nxt c k)) 0 k)
    ∗ sepL all7 (fun k => iprop(dutyTok ER (sendCell c k) 0 0 ∗ dutyTok ER (recvCell (nxt c k) k) 0 0))
    ∗ sepL all7 (fun k => iprop(cred (tallyAt (recvCell c k) () (NS k)) ∗ atPos ER (recvCell c k) 0 ∅ 0))
    ∗ sepL all7 (fun k => atPos ER (sendCell c k) 0 ∅ 0)
    ∗ (((c : Thread nD τ).loc main_arg0) ↦{fullShare} xAt m c)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ ∃ f, outPts c f)

/-- What it ends with: nothing owed, the argument as it was, the result stored, every cell at zero. -/
def bodyPost : sProp 𝕄 :=
  iprop(owesE c 0 ∗ (((c : Thread nD τ).loc main_arg0) ↦{fullShare} xAt m c)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ outPts c (outAt m c)
    ∗ semVal (barCell c) 0 ∗ sepL all4 (fun i => semVal (loadCell c i) 0)
    ∗ sepL all7 (fun k => semVal (recvCell c k) 0) ∗ sepL all7 (fun k => semVal (sendCell c k) 0))

/-- The body on device `c`. -/
theorem runs_body (Q : PUnit.{1} → sProp 𝕄) : iprop(recs m K ∗ bodyPre m c) ⊢ iprop((bodyPost m c -∗ Q ⟨⟩) -∗ runs c bodyP Q) := by
  unfold bodyPre bodyPost bodyP O₀
  simp only [wp_deviceId]
  iintro ⟨#HR, #HL, Ho, ⟨Hcb, Hab⟩, Htl, Hal, Htb, Hts, Hr, Has, Hx, ⟨%f0, H0⟩, ⟨%f1, H1⟩, ⟨%f2, H2⟩, ⟨%fo, Hout⟩⟩ Hk
  -- the loads
  ihave Hx := (Entails.of_eq (rows_split m c)) $$ Hx
  ihave Hx := (Entails.of_eq (sepL_all4 _)) $$ Hx
  ihave H0 := (Entails.of_eq (buf_split c f0)) $$ H0
  ihave H0 := (buf_some c f0) $$ H0
  ihave H0 := (Entails.of_eq (sepL_all4 _)) $$ H0
  ihave H := (Entails.of_eq sep_swap4) $$ [H0 Htl]
  · isplitl [H0] <;> iassumption
  ihave H := (Entails.of_eq sep_swap4) $$ [Hx H]
  · isplitl [Hx] <;> iassumption
  iapply (runs_starts m K c Q _ all4) $$ [H]
  · isplitr; · iexact HR
    iexact H
  iintro Hcl
  -- the signals
  ihave H2 := (Entails.of_eq (slot_split c f2)) $$ H2
  ihave H2 := (slot_some c f2) $$ H2
  ihave H2 := (Entails.of_eq (own_rows c)) $$ H2
  ihave H := (Entails.of_eq sep_swap7) $$ [H2 Htb]
  · isplitl [H2] <;> iassumption
  iapply (runs_signals m K c Q _ (sendDebt c all7) all7) $$ [Ho H]
  · isplitr; · iexact HR
    isplitl [Ho] <;> iassumption
  iintro Ho
  -- the sum
  ihave H1 := (Entails.of_eq (part_eq c fullShare f1)) $$ H1
  ihave Hl := (Entails.of_eq sep_swap4) $$ [Hcl Hal]
  · isplitl [Hcl] <;> iassumption
  iapply (runs_sum m K c Q _ f1) $$ [Ho Hl H1]
  · isplitr; · iexact HR
    isplitr; · iexact HL
    isplitl [Ho]; · iexact Ho
    isplitl [Hl] <;> iassumption
  iintro ⟨Ho, Hl, Hp⟩
  ihave Hl := (Entails.of_eq sep_swap4.symm) $$ Hl
  icases Hl with ⟨Hl, Hzl⟩
  -- the exchange
  iapply (runs_exchange m K c Q fo) $$ [Ho Hcb Hab Hp Hts Hr Has Hout]
  · isplitr; · iexact HR
    isplitr; · iexact HL
    isplitl [Ho]; · iexact Ho
    isplitl [Hcb]; · iexact Hcb
    isplitl [Hab]; · iexact Hab
    isplitl [Hp]; · iexact Hp
    isplitl [Hts]; · iexact Hts
    isplitl [Hr]; · iexact Hr
    isplitl [Has] <;> iassumption
  iintro ⟨Ho, Hp, Hg, Hout, Hzb, Hzr, Hzs⟩
  unfold loadPay
  ihave Hl := (Entails.of_eq sep_swap4.symm) $$ Hl
  icases Hl with ⟨Hl, Hx⟩
  ihave Hl := (Entails.of_eq (sepL_all4 _).symm) $$ Hl
  ihave Hl := (buf_forget m c) $$ Hl
  ihave Hl := (buf_join c f0) $$ Hl
  ihave Hx := (Entails.of_eq (sepL_all4 _).symm) $$ Hx
  ihave Hx := (Entails.of_eq (rows_split m c).symm) $$ Hx
  iapply Hk
  isplitl [Ho]; · iexact Ho
  isplitl [Hx]; · iexact Hx
  isplitl [Hl]; · iexact Hl
  isplitl [Hp]; · iexists (partAt m c); iapply (Entails.of_eq (part_eq c fullShare (partAt m c)).symm); iexact Hp
  isplitl [Hg]; · iexists (gathAt m c); iexact Hg
  isplitl [Hout]; · iexact Hout
  isplitl [Hzb]; · iexact Hzb
  isplitl [Hzl]; · iexact Hzl
  isplitl [Hzr] <;> iassumption

end Stages

end Cert.Mean

end
-- ==== Proof.Ghost.lean ====
/-
What the launch deals out before any device runs: the cells made shared, the tokens of the duties passed to the
devices that pay them, and the credit for what the others owe a device.
-/
module

public import proofs.«01_k».proof.Proof.Device
public import Idealize.ShloMosaic.Lib.Quiescent

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Lists of conjuncts -/

theorem sepL_append {I : Type} (Φ : I → sProp 𝕄) (js : List I) : ∀ is : List I, sepL (is ++ js) Φ = iprop(sepL is Φ ∗ sepL js Φ)
  | [] => by
    rw [List.nil_append, sepL_nil]
    refine BI.Entails.antisymm (show sepL js Φ ⊢ iprop(emp ∗ sepL js Φ) from ?_) (show iprop(emp ∗ sepL js Φ) ⊢ sepL js Φ from ?_)
    · iintro H
      isplitr; · iempintro
      iexact H
    · iintro ⟨-, H⟩; iexact H
  | i :: is => by
    rw [List.cons_append, sepL_cons, sepL_cons, sepL_append Φ js is]
    refine BI.Entails.antisymm (show iprop(Φ i ∗ sepL is Φ ∗ sepL js Φ) ⊢ iprop((Φ i ∗ sepL is Φ) ∗ sepL js Φ) from ?_)
      (show iprop((Φ i ∗ sepL is Φ) ∗ sepL js Φ) ⊢ iprop(Φ i ∗ sepL is Φ ∗ sepL js Φ) from ?_)
    · iintro ⟨H1, H2, H3⟩
      isplitl [H1 H2]; · isplitl [H1] <;> iassumption
      iexact H3
    · iintro ⟨⟨H1, H2⟩, H3⟩
      isplitl [H1]; · iexact H1
      isplitl [H2] <;> iassumption
theorem sepL_map {I J : Type} (e : I → J) (Φ : J → sProp 𝕄) : ∀ is : List I, sepL (is.map e) Φ = sepL is fun i => Φ (e i)
  | [] => rfl
  | i :: is => by rw [List.map_cons, sepL_cons, sepL_cons, sepL_map e Φ is]

/-- All of a finite type, listed. -/
theorem sepL_univ {I : Type} [DecidableEq I] [Fintype I] (Φ : I → sProp 𝕄) (is : List I) (h : Finset.univ = is.toFinset) (hn : is.Nodup) :
    bigSep Finset.univ Φ = sepL is Φ := by rw [h]; exact sepL_eq Φ is hn

/-- The nineteen cells of a device: its barrier, the result's, its loads', its sends' and its receipts'. -/
theorem sepL_cells (Φ : Fin 19 → sProp 𝕄) :
    bigSep Finset.univ Φ = iprop(Φ 0 ∗ sepL all4 (fun i => Φ (loadS i)) ∗ sepL all7 (fun k => Φ (sendS k)) ∗ sepL all7 fun k => Φ (recvS k)) := by
  rw [sepL_univ Φ ((0 : Fin 19) :: (all4.map loadS ++ (all7.map sendS ++ all7.map recvS))) (by decide) (by decide), sepL_cons, sepL_append, sepL_append,
    sepL_map loadS, sepL_map sendS, sepL_map recvS]

/-! ## The cells and the tokens -/

theorem csem_injective : ∀ i j : Fin 19, csem i = csem j → i = j := by decide
theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective k k' (congrArg Prod.snd h)
  rw [h1, h2]
def allCells : Finset (GSem nD τ sig) := Finset.univ.map ⟨kcell, kcell_injective⟩

/-- A device's duties: seven on its barrier, one on each load, on each send, on each receipt. -/
abbrev Duty : Type := Fin 7 ⊕ Fin 4 ⊕ Fin 7 ⊕ Fin 7
/-- The token of each, of device `c`. -/
def tokOf (x : Dev nD × Duty) : GSem nD τ sig × ℕ × Fin 7 := match x with
  | (c, .inl d) => (barCell c, 0, d) | (c, .inr (.inl i)) => (loadCell c i, 0, 0)
  | (c, .inr (.inr (.inl k))) => (sendCell c k, 0, 0) | (c, .inr (.inr (.inr k))) => (recvCell c k, 0, 0)
/-- What tells a device's tokens apart. -/
def tokKey : Duty → Role × Fin 7
  | .inl d => (.bar, d) | .inr (.inl i) => (.load i, 0) | .inr (.inr (.inl k)) => (.send k, 0) | .inr (.inr (.inr k)) => (.recv k, 0)
theorem tokKey_injective : ∀ x y : Duty, tokKey x = tokKey y → x = y := by decide
theorem tokKey_eq (c : Dev nD) (j : Duty) : (role (tokOf (c, j)).1.2, (tokOf (c, j)).2.2) = tokKey j := by
  rcases j with d | i | k | k
  · rfl
  · exact congrArg (fun r => (r, (0 : Fin 7))) (role_load i)
  · exact congrArg (fun r => (r, (0 : Fin 7))) (role_send k)
  · exact congrArg (fun r => (r, (0 : Fin 7))) (role_recv k)
theorem tokOf_dev (c : Dev nD) (j : Duty) : (tokOf (c, j)).1.1.1 = c := by rcases j with d | i | k | k <;> rfl
theorem tokOf_injective : Function.Injective tokOf := by
  rintro ⟨c, j⟩ ⟨c', j'⟩ h
  have h1 : c = c' := by rw [← tokOf_dev c j, h, tokOf_dev]
  have h2 : j = j' := tokKey_injective j j' (by rw [← tokKey_eq c j, h, tokKey_eq])
  rw [h1, h2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of device `c`'s own cells, -/
def toks (c : Dev nD) : sProp 𝕄 :=
  iprop(sepL all7 (fun d => dutyTok ER (barCell c) 0 d) ∗ sepL all4 (fun i => dutyTok ER (loadCell c i) 0 0)
    ∗ sepL all7 (fun k => dutyTok ER (sendCell c k) 0 0) ∗ sepL all7 fun k => dutyTok ER (recvCell c k) 0 0)
/-- and of the duties it pays. -/
def payToks (c : Dev nD) : sProp 𝕄 :=
  iprop(sepL all7 (fun k => dutyTok ER (barCell (nxt c k)) 0 k) ∗ sepL all4 (fun i => dutyTok ER (loadCell c i) 0 0)
    ∗ sepL all7 (fun k => dutyTok ER (sendCell c k) 0 0) ∗ sepL all7 fun k => dutyTok ER (recvCell (nxt c k) k) 0 0)

theorem toks_eq (c : Dev nD) : bigSep Finset.univ (fun j : Duty => (dutyTok ER (tokOf (c, j)).1 (tokOf (c, j)).2.1 (tokOf (c, j)).2.2 : sProp 𝕄)) = toks c := by
  rw [sepL_univ _ (all7.map Sum.inl ++ (all4.map (fun i => Sum.inr (Sum.inl i)) ++ (all7.map (fun k => Sum.inr (Sum.inr (Sum.inl k))) ++ all7.map (fun k => Sum.inr (Sum.inr (Sum.inr k))))))
    (by decide) (by decide), sepL_append, sepL_append, sepL_append, sepL_map, sepL_map, sepL_map, sepL_map]
  rfl

/-- Going round: device and neighbour's number to neighbour and number. -/
def around : Dev nD × Fin 7 ≃ Dev nD × Fin 7 where
  toFun x := (nxt x.1 x.2, x.2)
  invFun x := (prv x.1 x.2, x.2)
  left_inv x := by simp [prv_nxt]
  right_inv x := by simp [nxt_prv]

/-- What each device holds for each number, passed to the device that many places before. -/
theorem sepL_around (Φ : Dev nD → Fin 7 → sProp 𝕄) :
    bigSep Finset.univ (fun c => sepL all7 (Φ c)) = bigSep Finset.univ fun c => sepL all7 fun k => Φ (nxt c k) k := by
  have h (Ψ : Dev nD → Fin 7 → sProp 𝕄) : bigSep Finset.univ (fun c => sepL all7 (Ψ c)) = bigSep Finset.univ fun x : Dev nD × Fin 7 => Ψ x.1 x.2 := by
    rw [bigSep_univ_prod]; exact bigSep_congr fun c _ => (sepL_all7 (Ψ c)).symm
  rw [h, h, bigSep_univ_equiv around]; rfl

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', sepL_around (fun c d => dutyTok ER (barCell c) 0 d),
    sepL_around (fun c k => dutyTok ER (recvCell c k) 0 0)]

/-! ## What the launch deals -/

/-- What each device is dealt at first, -/
def dealt (c : Dev nD) : sProp 𝕄 :=
  iprop((bigSep Finset.univ fun k : Fin 19 => roundState ER (sched m) (kcell (c, k)) 0)
    ∗ (bigSep Finset.univ fun k : Fin 19 => iprop(atPos ER (kcell (c, k)) 0 ∅ 0 ∗ reached ER (kcell (c, k)) 0)) ∗ toks c)
/-- its positions, -/
def places (c : Dev nD) : sProp 𝕄 :=
  iprop(atPos ER (barCell c) 0 ∅ 0 ∗ sepL all4 (fun i => atPos ER (loadCell c i) 0 ∅ 0)
    ∗ sepL all7 (fun k => atPos ER (sendCell c k) 0 ∅ 0) ∗ sepL all7 fun k => atPos ER (recvCell c k) 0 ∅ 0)
/-- and what it has once the cells are shared and the tokens passed round. -/
def ready (c : Dev nD) : sProp 𝕄 := iprop(∃ K, recs m K ∗ places c ∗ payToks c)

theorem places_eq (c : Dev nD) : bigSep Finset.univ (fun k : Fin 19 => (atPos ER (kcell (c, k)) 0 ∅ 0 : sProp 𝕄)) = places c := by
  rw [sepL_cells]; unfold places; dsimp only [kcell]; simp only [csem_load, csem_send, csem_recv]; rfl

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The counters at zero -/

/-- A device's transfer semaphores other than the result's. -/
def osem (i : Fin 18) : SemLoc sig := .dma (⟨i.val + 1, by have := i.isLt; show _ < 19; omega⟩ : Fin 19)
theorem ownSemFacts : Pipeline.OwnSemFacts cfg0.spec osem := by decide
def ownL (i : Fin 4) : Fin 18 := ⟨i.val, by omega⟩
def ownS (k : Fin 7) : Fin 18 := ⟨4 + k.val, by omega⟩
def ownR (k : Fin 7) : Fin 18 := ⟨11 + k.val, by omega⟩
theorem osem_load : ∀ i : Fin 4, osem (ownL i) = .dma (loadS i) := by decide
theorem osem_send : ∀ k : Fin 7, osem (ownS k) = .dma (sendS k) := by decide
theorem osem_recv : ∀ k : Fin 7, osem (ownR k) = .dma (recvS k) := by decide

theorem ownSems0_eq (c : Dev nD) : (Pipeline.ownSems0 (Ix := Unit) (Name := ℕ) (U := UU) (Lvl := ℕ) (Val := Elt F) (τ := τ) osem c : sProp 𝕄)
    = iprop(sepL all4 (fun i => semVal (loadCell c i) 0) ∗ sepL all7 (fun k => semVal (sendCell c k) 0) ∗ sepL all7 fun k => semVal (recvCell c k) 0) := by
  unfold Pipeline.ownSems0
  rw [sepL_univ _ (all4.map ownL ++ (all7.map ownS ++ all7.map ownR)) (by decide) (by decide), sepL_append, sepL_append, sepL_map, sepL_map, sepL_map]
  simp only [osem_load, osem_send, osem_recv]
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, sepL_cells]; dsimp only [kcell]; simp only [csem_load, csem_send, csem_recv]
  iintro ⟨H, HB⟩
  isplitl [HB]; · iexact HB
  iexact H

/-! ## The cells shared -/

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0 (F := F) c) $$ [Hos Hus]
  · isplitl [Hos] <;> iassumption
  imod (show iprop((bigSep Finset.univ fun k : Fin 19 => semVal (kcell (c, k)) 0) ∗ bigSep Finset.univ fun k : Fin 19 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- One persistent record handed to every device. -/
theorem hand_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem ready_intro (K : Dev nD × Fin 19 → ℕ) (c : Dev nD) : iprop(recs m K ∗ (places c ∗ payToks c)) ⊢ ready m c := by
  unfold ready
  iintro ⟨HR, HP⟩
  iexists K
  isplitl [HR] <;> iassumption

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (ready m) := by
  rw [bigSep_sep', bigSep_sep', ← bigSep_univ_prod (fun ck : Dev nD × Fin 19 => iprop(∃ κ : ℕ, cellInv ER (sched m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄)), toks_around,
    bigSep_congr (s := Finset.univ) (fun (c : Dev nD) _ => places_eq (F := F) c)]
  iintro ⟨HI, ⟨Hat, HR⟩, Htok⟩
  ihave HK := (BI.bigSep_exists_pi Finset.univ (fun (ck : Dev nD × Fin 19) (κ : ℕ) => (cellInv ER (sched m) κ (kcell ck) : sProp 𝕄))) $$ HI
  icases HK with ⟨%K, HI⟩
  iapply (hand_out (R := recs m K) (Φ := fun c => iprop(places c ∗ payToks c)) fun c => ready_intro m K c)
  isplitl [HI HR]
  · unfold recs; rw [bigSep_sep']
    isplitl [HI] <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The credit -/

/-- What the listed sends, and signals, of `c` owe one cell. -/
theorem sendDebt_at (c : Dev nD) (g : GSem nD τ sig) : ∀ ks : List (Fin 7), sendDebt c ks g () = (ks.map fun k => if g = recvCell (nxt c k) k then NS k else 0).sum
  | [] => rfl
  | k :: ks => by
    rw [sendDebt_cons, Pi.add_apply, Finsupp.add_apply, tallyAt_apply, sendDebt_at c g ks, List.map_cons, List.sum_cons, add_comm]
    simp only [and_true]
theorem barDebt_at (c : Dev nD) (g : GSem nD τ sig) : ∀ ks : List (Fin 7), barDebt c ks g () = (ks.map fun k => if g = barCell (nxt c k) then 1 else 0).sum
  | [] => rfl
  | k :: ks => by
    rw [barDebt_cons, Pi.add_apply, Finsupp.add_apply, tallyAt_apply, barDebt_at c g ks, List.map_cons, List.sum_cons, add_comm]
    simp only [and_true]

theorem bar_eq_iff {a b : Dev nD} : barCell a = barCell b ↔ a = b := ⟨fun h => congrArg (fun g : GSem nD τ sig => g.1.1) h, fun h => h ▸ rfl⟩
theorem recv_eq_iff {a b : Dev nD} {k j : Fin 7} : recvCell a k = recvCell b j ↔ a = b ∧ k = j :=
  ⟨fun h => ⟨congrArg (fun g : GSem nD τ sig => g.1.1) h, by
    have h2 := congrArg (fun g : GSem nD τ sig => role g.2) h
    simp only [role_recv] at h2
    exact Role.recv.inj h2⟩, fun ⟨h1, h2⟩ => by rw [h1, h2]⟩
theorem bar_ne_recv {a b : Dev nD} {k : Fin 7} : barCell a ≠ recvCell b k := fun h => by cases congrArg Prod.snd h

theorem owed_bar (d c : Dev nD) : O₀ d (barCell c) () = (all7.map fun k => if c = nxt d k then 1 else 0).sum := by
  unfold O₀
  rw [Pi.add_apply, Finsupp.add_apply, sendDebt_at, barDebt_at]
  simp only [if_neg bar_ne_recv, bar_eq_iff]
  simp
theorem owed_recv (d c : Dev nD) (k : Fin 7) : O₀ d (recvCell c k) () = if d = prv c k then NS k else 0 := by
  unfold O₀
  rw [Pi.add_apply, Finsupp.add_apply, sendDebt_at, barDebt_at]
  simp only [if_neg bar_ne_recv.symm, recv_eq_iff]
  have h : (c = nxt d k) ↔ (d = prv c k) := ⟨fun h => by rw [h, prv_nxt], fun h => by rw [h, nxt_prv]⟩
  simp only [← h]
  fin_cases k <;> simp

theorem owed_bar_sum : ∀ c : Dev nD, (∑ d : Dev nD, (all7.map fun k => if c = nxt d k then 1 else 0).sum) = 7 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, owed_bar_sum]
theorem launch_recv (c : Dev nD) (k : Fin 7) :
    tallyOn (recvCell c k) (launchCredit (Pipeline.owing O₀) 0 (recvCell c k)) = (tallyAt (recvCell c k) () (NS k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (prv c k) fun _ => NS k,
    if_pos (Finset.mem_univ _)]

/-- A device starts with the credit of its barrier's seven units and of its seven receipts. -/
theorem creds (c : Dev nD) : (Pipeline.launchCred O₀ c : sProp 𝕄)
    ⊢ iprop(cred (tallyAt (barCell c) () 7) ∗ sepL all7 fun k => cred (tallyAt (recvCell c k) () (NS k))) := by
  unfold Pipeline.launchCred
  rw [bigSep_sdiff_split (Finset.subset_univ (SemLoc.reg barS :: all7.map fun k => SemLoc.dma (recvS k)).toFinset), sepL_eq _ _ (by decide), sepL_cons, sepL_map,
    launch_bar]
  simp only [launch_recv]
  show iprop((_ : sProp 𝕄) ∗ (_ : sProp 𝕄)) ⊢ _
  iintro ⟨H, -⟩
  iexact H

end Cert.Mean

end
-- ==== Proof.Launch.lean ====
/-
The launch: the pipeline's contract of the one kernel call, met by the body, and the run of the whole program —
for any float values, from any memory whose counters are zero.
-/
module

public import proofs.«01_k».proof.Proof.Ghost
public import proofs.«01_k».proof.Proof.Gen.KernelIdeal.Points
public import Idealize.ShloMosaic.Lib.Pipeline.CollectiveSegs

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (ρ : Dev nD → PrngReg)

/-! ## The pipeline's contract -/

/-- What device `c` has before the one point, besides its scratch buffers; -/
def start (c : Dev nD) : sProp 𝕄 :=
  iprop(ready m c ∗ levAts L lv ∗ (cred (tallyAt (barCell c) () 7) ∗ sepL all7 fun k => cred (tallyAt (recvCell c k) () (NS k)))
    ∗ ((c : Thread nD τ).loc main_arg0) ↦{fullShare} xAt m c)
/-- its scratch buffers, whatever they hold; -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)
/-- and what it has after: the argument as it was and every counter at zero. -/
def finish (c : Dev nD) : sProp 𝕄 :=
  iprop((((c : Thread nD τ).loc main_arg0) ↦{fullShare} xAt m c) ∗ semVal (barCell c) 0
    ∗ sepL all4 (fun i => semVal (loadCell c i) 0) ∗ sepL all7 (fun k => semVal (sendCell c k) 0) ∗ sepL all7 fun k => semVal (recvCell c k) 0)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => iprop(start m c ∗ scratch c)
    | ⟨_ + 1, _⟩ => iprop(finish m c ∗ scratch c)
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of the result at `X`. -/
abbrev staged (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

/-- What the pipeline hands the body, and what it expects back. -/
def callPre (c : Dev nD) : sProp 𝕄 :=
  iprop((start m c ∗ scratch c) ∗ (dats m 0 c).owesAt () t0_0.castSucc ∗ ∃ d, staged c ((dats m 0 c).before (0 : Fin 1) t0_0 d))
def callPost (c : Dev nD) : sProp 𝕄 :=
  iprop((finish m c ∗ scratch c) ∗ (dats m 0 c).owesAt () t0_0.succ ∗ staged c (outAt m c))

theorem callPre_body (c : Dev nD) : callPre m c ⊢ iprop(∃ K, recs m K ∗ bodyPre m c) := by
  unfold callPre start scratch ready places payToks bodyPre Dat.owesAt Pipeline.owesWithin
  rw [show (dats m 0 c).owed t0_0.castSucc = O₀ c from rfl]
  iintro ⟨⟨⟨⟨%K, HR, ⟨Hab, Hal, Has, Har⟩, Htb, Htl, Hts, Htr⟩, HL, ⟨Hcb, Hcr⟩, Hx⟩, H0, H1, H2⟩, ⟨%W, -, Ho⟩, ⟨%d, %f, -, Hout⟩⟩
  ihave Hts := (Entails.of_eq sep_swap7) $$ [Hts Htr]
  · isplitl [Hts] <;> iassumption
  ihave Hr := (Entails.of_eq sep_swap7) $$ [Hcr Har]
  · isplitl [Hcr] <;> iassumption
  iexists K
  isplitl [HR]; · iexact HR
  isplitl [HL]; · iexact HL
  isplitl [Ho]; · iexists W; iexact Ho
  isplitl [Hcb Hab]; · isplitl [Hcb] <;> iassumption
  isplitl [Htl]; · iexact Htl
  isplitl [Hal]; · iexact Hal
  isplitl [Htb]; · iexact Htb
  isplitl [Hts]; · iexact Hts
  isplitl [Hr]; · iexact Hr
  isplitl [Has]; · iexact Has
  isplitl [Hx]; · iexact Hx
  isplitl [H0]; · iexact H0
  isplitl [H1]; · iexact H1
  isplitl [H2]; · iexact H2
  iexists f; iexact Hout

theorem body_callPost (c : Dev nD) : bodyPost m c ⊢ callPost m c := by
  unfold callPost finish scratch bodyPost Dat.owesAt Pipeline.owesWithin
  rw [show (dats m 0 c).owed t0_0.succ = 0 from rfl]
  iintro ⟨⟨%W, Ho⟩, Hx, H0, H1, H2, Hout, Hzb, Hzl, Hzr, Hzs⟩
  isplitl [Hx H0 H1 H2 Hzb Hzl Hzr Hzs]
  · isplitl [Hx Hzb Hzl Hzr Hzs]
    · isplitl [Hx]; · iexact Hx
      isplitl [Hzb]; · iexact Hzb
      isplitl [Hzl]; · iexact Hzl
      isplitl [Hzs] <;> iassumption
    · isplitl [H0]; · iexact H0
      isplitl [H1] <;> iassumption
  isplitl [Ho]
  · iexists W
    isplitr; · ipureintro; exact fun _ _ => Or.inl trivial
    iexact Ho
  iexists (outAt m c)
  isplitr; · ipureintro; rfl
  iexact Hout

theorem call_runs (c : Dev nD) : callPre m c ⊢ runs c bodyP (fun _ => callPost m c) := by
  iintro H
  ihave H := (callPre_body m c) $$ H
  icases H with ⟨%K, H⟩
  iapply (runs_body m K c (fun _ => callPost m c)) $$ H
  iintro H
  iapply (body_callPost m c); iexact H

/-- The library's obligation on the body of device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show callPre m c ⊢ wp frame (wpE (defs₀ (F := F)) 𝒱₀ c none) Set.univ
    (cc0_body xM (Memref.isWhole_whole _) oM (Memref.isWhole_whole _) bM (Memref.isWhole_whole _) pM (Memref.isWhole_whole _)
      gM (Memref.isWhole_whole _) cc0_scratch3 cc0_scratch4 cc0_scratch5) (fun _ => callPost m c)
  rw [body_eq]
  exact call_runs m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq]
  iintro ⟨Hx, HL, Hcr, -, HG⟩
  ihave Hc := (creds (F := F) c) $$ Hcr
  imodintro
  unfold start
  isplitl
  · isplitl [HG]; · iexact HG
    isplitl [HL]; · iexact HL
    isplitl [Hc]; · iexact Hc
    iexact Hx
  · iempintro

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

theorem phi_exit (c : Dev nD) :
    (dats m 0 c).Φ (Fin.last cfg0.N) ⊢ iprop((unscopedSems0 c ∗ ((c : Thread nD τ).loc main_arg0) ↦{fullShare} xAt m c) ∗ Pipeline.ownSems0 osem c ∗ Pipeline.scopedRest cfg0.spec c) := by
  rw [show (dats m 0 c).Φ (Fin.last cfg0.N) = iprop(finish m c ∗ scratch c) from rfl, scopedRest0_eq, ownSems0_eq, unscopedSems0_eq]
  unfold finish scratch
  iintro ⟨⟨Hx, HB, Hz⟩, Hr⟩
  isplitl [HB Hx]
  · isplitl [HB] <;> iassumption
  isplitl [Hz] <;> iassumption

theorem mayWait_stage (c : Dev nD) (q : DmaSem sig) (hq : lvRole (role (.dma q)) = 0) (O : CellTallies nD τ sig Unit) (hO : O = O₀ c ∨ O = 0) :
    (levAts L lv : sProp 𝕄) ⊢ MayWait (c : Thread nD τ) (.dma q) () O := by
  rcases hO with rfl | rfl
  · exact mayWait_low c q hq _ fun g u h => O₀_pos h
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The result array, written back whole, holds what the body stored. -/
theorem result_eq (c : Dev nD) : (dats m 0 c).arrAt (0 : Fin 1) cfg0.N = outAt m c := by
  rw [show cfg0.N = (t0_0 : Fin cfg0.N).val + 1 from rfl, (dats m 0 c).arrAt_succ (0 : Fin 1) t0_0, if_pos (flush0_0 t0_0)]
  exact Memref.write_access_unit_zero_univ (Elt F) main_v1 (funext fun a => by fin_cases a <;> rfl) _ _ _

/-! ## The run -/

/-- From any memory with zero counters every weakly fair execution ends, and in every state it can end in each
    device's result is `outAt`, its argument is unchanged and every counter is zero. -/
theorem run_main : θ_run (defs (F := F)) (onTc (τ := τ) (main (F := F))) ⟨m, fun _ => 0, ρ⟩
    (fun r => (∀ c : Dev nD, r.2.mem ((c.tc : Thread nD τ).loc main_v1) = outAt m c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ ((c : Thread nD τ).loc main_arg0) ↦{fullShare} xAt m c)) (Z := fun _ => iprop(emp))
    (hX := start_intro m ρ) (hin := phi_enter m) (hout := phi_exit m)
    (QY := fun c s => (∀ sm : SemLoc sig, sm.isScoped .tc = false → s.sem ((c.tc : Thread nD τ), sm) = 0)
      ∧ s.mem ((c.tc : Thread nD τ).loc main_arg0) = m ((c.tc : Thread nD τ).loc main_arg0))
    (hY := fun c s' => by
      iintro ⟨⟨Hu, Hx⟩, -, HSI⟩
      imod (Pipeline.unscopedSems0_read (X := unscopedSems0 c) (c := c) fupd_intro s') $$ [Hu HSI] with ⟨%h1, HSI⟩
      · isplitl [Hu] <;> iassumption
      ihave H := (pointsTo_read_all (Finset.univ : Finset Unit) (fun _ => (c : Thread nD τ).loc main_arg0) (fun _ => xAt m c) s') $$ [Hx HSI]
      · isplitl [Hx]
        · rw [show (Finset.univ : Finset Unit) = {()} from rfl, bigSep_singleton]; iexact Hx
        · iexact HSI
      icases H with ⟨%h2, HSI⟩
      imodintro
      isplitr; · ipureintro; exact ⟨h1, h2 () (Finset.mem_univ _)⟩
      iexact HSI)
    (hQ := fun _ h hs => ⟨fun c => ⟨((h c).1 (0 : Fin 1)).trans (result_eq m c), (h c).2.2.2⟩, sem_eq_zero hs fun c => (h c).2.2.1⟩)

end Cert.Mean

end
-- ==== Proof.Printed.lean ====
module

public import proofs.«01_k».proof.Defs
public import proofs.«01_k».proof.Proof.Gen.Kernel
public import proofs.«01_k».proof.Proof.Launch

/-! The kernel as printed and the kernel over ideal values differ only in how they spell the constant by which the sum is
    scaled. Reading that name as its bits makes the two programs one, so a run proved of the second is a run of the first. -/

@[expose] public section

noncomputable section

namespace Cert.Mean

open Idealize.ShloMosaic Idealize.SL.Sem

/-- A named constant read as the bits the printed kernel spells. -/
@[reducible] def namedBits : Named Bits := ⟨fun _ _ {φ} bits => (Scalar.ofBits φ bits : Bits φ)⟩

section Same
variable [j1 : Cert.Kernel.Facts] [j2 : Cert.KernelIdeal.Facts]

/-- The two programs have the same device functions when the name is read as its bits. -/
theorem defs_same : @Cert.Kernel.defs₀ Bits _ j1 = @Cert.KernelIdeal.defs₀ Bits _ namedBits j2 := by
  unfold Cert.Kernel.defs₀ Cert.KernelIdeal.defs₀
  refine congrArg Defs.onTc ?_
  funext a b
  match a, b with
  | 0, (t, s) => rfl

/-- A frame of the kernel over ideal values, run on bits, is the frame of the printed kernel. -/
theorem printed_of_named (h : letI := namedBits
    ∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩
        (fun r => (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0)) :
    Cert.quiescent_Kernel := fun m g _ => by
  unfold Cert.Kernel.defs
  unfold Cert.KernelIdeal.defs at h
  rw [← defs_same] at h
  exact h m g

end Same

end Cert.Mean

end
-- ==== Proof.Value.lean ====
module

public import proofs.«01_k».proof.Proof.Protocol
public import Idealize.ShloMosaic.Lib.ValueIdx
public import Idealize.ShloMosaic.Lib.ValueLayout
public import Idealize.ShloMosaic.PureOps.Ideal.Laws

/-! Over exact real values: each device's result is the sum of all eight devices' columns divided by the number of rows. -/

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## Sums over the devices and over the rows -/

/-- A device and the seven before it on the ring are the eight devices: a sum over all of them, taken in that order. -/
theorem sum_ring (f : Dev nD → EReal) (c : Dev nD) : f c + ∑ k : Fin 7, f (prv c k) = ∑ d : Dev nD, f d := by
  have hi : ∀ c : Dev nD, Function.Injective (prv c) := by decide
  have he : ∀ c : Dev nD, Finset.univ.erase c = Finset.univ.image (prv c) := by decide
  rw [← Finset.add_sum_erase Finset.univ f (Finset.mem_univ c), he c, Finset.sum_image fun a _ b _ h => hi c h]

/-- A sum over `a * b` rows is a sum over `a` blocks of `b` rows. -/
theorem sum_blocks (a b : ℕ) (f : Fin (a * b) → EReal) :
    ∑ r : Fin (a * b), f r = ∑ i : Fin a, ∑ k : Fin b, f (finProdFinEquiv (i, k)) := by
  rw [← Fintype.sum_prod_type', ← finProdFinEquiv.sum_comp]

/-! ## A block of rows -/

/-- Device `c`'s argument, as an array of extended reals. -/
abbrev argV (c : Dev nD) : S1536x768.Idx → EReal := m ((c : Thread nD τ).loc main_arg0)

/-- Row `r` of block `i` of a device's argument is row `384 i + r` of the argument. -/
theorem blkAt_apply (i : Fin 4) (c : Dev nD) (r : Fin 384) (j : Fin 768) :
    blkAt m i c (ValueIdx.ix2 r j) = argV m c (ValueIdx.ix2 (finProdFinEquiv (i, r) : Fin 1536) j) := by
  unfold blkAt
  rw [View.read_apply]
  refine congrArg (argV m c) ?_
  funext a
  match a with
  | 0 => exact Fin.ext (by show 384 * i.val + 1 * r.val = r.val + 384 * i.val; omega)
  | 1 => exact Fin.ext (by show 0 + 1 * j.val = j.val; omega)

/-- Without the unit axis of the loads' buffer a block is itself. -/
theorem cast_bufV (i : Fin 4) (c : Dev nD) : shapeCast S384x768 (bufV m i c) shapeCasts_S1x384x768_S384x768 = blkAt m i c := by
  funext z
  show blkAt m i c (Shape.reshapeEquiv _ (Shape.reshapeEquiv _ z)) = _
  rw [Shape.reshapeEquiv_reshapeEquiv]
  simp

/-- A row cast to its own shape is itself. -/
theorem cast_row (v : S1x768.Idx → EReal) : shapeCast S1x768 v shapeCasts_S1x768_S1x768 = v := by
  funext z
  show v (Shape.reshapeEquiv _ z) = v z
  simp

/-- The column sums of a block, laid as a row. -/
theorem sum_block (v : FVec Ideal S384x768 .f32) (j : Fin 768) :
    shapeCast S1x768 (multiReduction (F := Ideal) .add [0] S768 v 0x00000000#32 reduces_S384x768_S768 (.inl rfl) rfl) shapeCasts_S768_S1x768
      (ValueIdx.ix2 (0 : Fin 1) j) = ∑ r : Fin 384, v (ValueIdx.ix2 r j) := by
  rw [ValueIdx.shapeCast_a_1a_apply]
  refine (Ideal.multiReduction_add_single v _ _ _ _ _).trans (Finset.sum_congr rfl fun r _ => congrArg v ?_)
  funext a
  match a with
  | 0 => rfl
  | 1 => rfl

/-- The seven rows of the gather buffer, added. -/
theorem sum_slots (v : FVec Ideal S7x1x768 .f32) (j : Fin 768) :
    multiReduction (F := Ideal) .add [0] S1x768 v 0x00000000#32 reduces_S7x1x768_S1x768 (.inl rfl) rfl
      (ValueIdx.ix2 (0 : Fin 1) j) = ∑ k : Fin 7, v (ValueIdx.ix3 k (0 : Fin 1) j) := by
  refine (Ideal.multiReduction_add_single v _ _ _ _ _).trans (Finset.sum_congr rfl fun r _ => congrArg v ?_)
  funext a
  match a with
  | 0 => rfl
  | 1 => rfl
  | 2 => rfl

/-! ## A device's partial sum and its result -/

/-- A device's partial sum is the sum of the 1536 rows of its argument. -/
theorem partAt_apply (c : Dev nD) (j : Fin 768) :
    partAt m c (ValueIdx.ix2 (0 : Fin 1) j) = ∑ r : Fin 1536, argV m c (ValueIdx.ix2 r j) := by
  refine Eq.trans ?_ (sum_blocks 4 384 fun r => argV m c (ValueIdx.ix2 (r : Fin 1536) j)).symm
  refine Eq.trans ?_ (Finset.sum_congr rfl fun i _ => Finset.sum_congr rfl fun r _ => blkAt_apply m i c r j)
  rw [Fin.sum_univ_four]
  unfold partAt part3 part2 part1 k0_pay6 k0_pay5 k0_pay4 k0_pay3 k0_pay2 k0_pay1
  simp only [cast_bufV, cast_row]
  simp only [ValueIdx.addf_apply]
  exact congr (congrArg _ (congr (congrArg _ (congr (congrArg _ (sum_block _ j)) (sum_block _ j))) (sum_block _ j))) (sum_block _ j)

/-- A device's result: the sum over all devices of their rows, times the reciprocal of the number of rows. -/
theorem outAt_apply (c : Dev nD) (j : Fin 768) :
    outAt m c (ValueIdx.ix2 (0 : Fin 1) j)
      = (∑ d : Dev nD, ∑ r : Fin 1536, argV m d (ValueIdx.ix2 r j)) * ((12288⁻¹ : ℝ) : EReal) := by
  unfold outAt k0_pay7
  show (_ + multiReduction (F := Ideal) .add [0] S1x768 _ _ _ _ _ _) * Named.named κ "inv_m" _ = _
  rw [sum_slots, IdealRules.named_const.ideal_named_scalar κ "inv_m" _ ((12288⁻¹ : ℝ) : EReal) rfl]
  refine congrArg (· * _) ?_
  have h : ∀ k : Fin 7, gathAt m c (ValueIdx.ix3 k (0 : Fin 1) j) = partAt m (prv c k) (ValueIdx.ix2 (0 : Fin 1) j) := fun _ => rfl
  simp only [h, partAt_apply]
  exact sum_ring (fun d => ∑ r : Fin 1536, argV m d (ValueIdx.ix2 r j)) c

/-- When the devices' arguments are the eight blocks of rows of one array, a device's result is that array's column sums over
    its 12288 rows, times the reciprocal of that number. -/
theorem outAt_whole (X : (⟨2, ![12288, 768]⟩ : Shape).Idx → EReal)
    (hX : ∀ c : Dev nD, argV m c = Layout.block ⟨2, ![1536, 768]⟩ ⟨2, ![12288, 768]⟩ 0 8 c X)
    (c : Dev nD) (j : Fin 768) :
    outAt m c (ValueIdx.ix2 (0 : Fin 1) j) = (∑ r : Fin 12288, X (ValueIdx.ix2 r j)) * ((12288⁻¹ : ℝ) : EReal) := by
  rw [outAt_apply]
  refine congrArg (· * _) ?_
  refine Eq.trans ?_ (sum_blocks 8 1536 fun r => X (ValueIdx.ix2 (r : Fin 12288) j)).symm
  refine Finset.sum_congr rfl fun d _ => Finset.sum_congr rfl fun r _ => ?_
  rw [hX d, Layout.block_apply]
  refine congrArg X ?_
  funext a
  match a with
  | 0 => exact Fin.ext (by show d.val * 1536 + r.val = r.val + 1536 * d.val; omega)
  | 1 => rfl

end Cert.Mean

end
-- ==== Proof.Mean.lean ====
module

public import proofs.«01_k».proof.Proof.Value
public import proofs.«01_k».proof.Proof.Gen.ReferenceIdeal.Run
public import Idealize.ShloMosaic.Lib.IdealHost
public import Idealize.ShloMosaic.Lib.Pipeline.Value

/-! The reference over exact real values: the column sums of the whole array divided by the number of its rows. Every device of
    the kernel ends with that row. -/

@[expose] public section

noncomputable section

namespace Cert.Mean

open Idealize.ShloMosaic Idealize.ShloMosaic.TcCoe
open Cert.ReferenceIdeal Cert.ReferenceIdeal.Gen

/-- The divisor the reference spells is the real number 12288. -/
theorem rows_bits : Ideal.ofBits .f32 0x46400000#32 = ((12288 : ℝ) : EReal) := by
  simp [Ideal.ofBits, Ideal.ieee, -EReal.coe_mul]; norm_num

/-- What the reference leaves in its result, of an argument `X`. -/
def refV (X : FVec Ideal S12288x768 .f32) : FVec Ideal S1x768 .f32 :=
  Host.divf (broadcastInDim S1x768 ![1] bcast_S768_S1x768_1 (Host.reduceAdd X (constant S_ .f32 0x00000000#32) reducesTo_S12288x768_S768_d0 h_S_))
    (broadcastInDim S1x768 ![] bcast_S_S1x768 (constant S_ .f32 0x46400000#32))

/-- Column `j` of the reference's result: the sum of the column's 12288 entries times the reciprocal of 12288. -/
theorem refV_apply (X : FVec Ideal S12288x768 .f32) (j : Fin 768) :
    refV X (ValueIdx.ix2 (0 : Fin 1) j) = (∑ r : Fin 12288, (X (ValueIdx.ix2 r j) : EReal)) * ((12288⁻¹ : ℝ) : EReal) := by
  have hr : Shape.Reduces S12288x768 [0] S768 := by decide
  have hsum : ∀ z : S768.Idx, Host.reduceAdd X (constant S_ .f32 0x00000000#32) reducesTo_S12288x768_S768_d0 h_S_ z
      = ∑ r : Fin 12288, (X (ValueIdx.ix2 r (z 0)) : EReal) := by
    intro z
    refine (Ideal.hostReduceAdd_single reducesTo_S12288x768_S768_d0 hr X _ z).trans ?_
    show Ideal.ofBits .f32 0x00000000#32 + _ = _
    rw [Ideal.ofBits_zero_f32, zero_add]
    refine Finset.sum_congr rfl fun r _ => congrArg X ?_
    funext a
    match a with
    | 0 => rfl
    | 1 => rfl
  have hrow : broadcastInDim S1x768 ![1] bcast_S768_S1x768_1 (Host.reduceAdd X (constant S_ .f32 0x00000000#32) reducesTo_S12288x768_S768_d0 h_S_)
      (ValueIdx.ix2 (0 : Fin 1) j) = ∑ r : Fin 12288, (X (ValueIdx.ix2 r j) : EReal) := by
    unfold broadcastInDim
    exact hsum _
  have hdiv : ∀ s : EReal, Ideal.div s (Ideal.ofBits .f32 0x46400000#32) = s * ((12288⁻¹ : ℝ) : EReal) := by
    intro s
    rw [rows_bits, Ideal.div_coe (by norm_num), one_div]
  unfold refV
  rw [ValueIdx.hostDivf_apply, ValueIdx.broadcastInDim_scalar_apply, hrow]
  exact hdiv _

/-- Every device of the kernel ends with the reference's result, when the devices' arguments are the blocks of its argument. -/
theorem outAt_eq_refV (m : (ℓ : Loc Cert.KernelIdeal.nD Cert.KernelIdeal.τ Cert.KernelIdeal.sig) → Buf (Elt Ideal) ℓ) (X : FVec Ideal S12288x768 .f32)
    (hX : ∀ c : Dev Cert.KernelIdeal.nD, argV m c = Layout.block ⟨2, ![1536, 768]⟩ ⟨2, ![12288, 768]⟩ 0 8 c X) (c : Dev Cert.KernelIdeal.nD) :
    outAt m c = refV X := by
  funext z
  rw [ValueIdx.eq_ix2 z, show z 0 = (0 : Fin 1) from Subsingleton.elim (α := Fin 1) _ _]
  exact (outAt_whole m X hX c _).trans (refV_apply X _).symm

end Cert.Mean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.Mean
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel ends without fault, leaves its argument as it was and every counter at zero. -/
theorem frame_printed : Cert.quiescent_Kernel :=
  Cert.Mean.printed_of_named (letI := Cert.Mean.namedBits; fun m g =>
    (θ_run (Cert.KernelIdeal.defs (F := Bits)) _ _).mono (fun _ h => ⟨fun c => (h.1 c).2, h.2⟩) (Cert.Mean.run_main (F := Bits) m g))

/-- So does the kernel over the extended reals. -/
theorem frame_ideal : Cert.quiescent_KernelIdeal := fun m g _ =>
  (θ_run (Cert.KernelIdeal.defs (F := Ideal)) _ _).mono (fun _ h => ⟨fun c => (h.1 c).2, h.2⟩) (Cert.Mean.run_main (F := Ideal) m g)

/-- So does the reference over the extended reals. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩) (Cert.ReferenceIdeal.Value.run (F := Ideal) m g)

/-- The name of the scale stands for the reciprocal of 12288. -/
theorem named_scale : Cert.preserves_Kernel_KernelIdeal := IdealRules.named_const.statement _ _ _ _ _ rfl

/-- Over the extended reals every device of the kernel ends with the reference's result. -/
theorem same_value : Cert.algebraic_KernelIdeal_ReferenceIdeal := fun m g m' g' _ hx =>
  ⟨Cert.Mean.refV (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).1.trans (Cert.Mean.outAt_eq_refV m _ hx c), (h.1 c).2⟩) (Cert.Mean.run_main (F := Ideal) m g),
    (θ_run (Cert.ReferenceIdeal.defs (F := Ideal)) _ _).mono (fun _ h => h 0) (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_printed, frame_ideal, frame_reference, named_scale, same_value⟩

end Cert.Proof

end
